-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_penalty_is_one [hPre_penalty_is_one : Cert.Pre_penalty_is_one.Facts] (m : (ℓ : Loc Cert.KernelIdeal.nD Cert.KernelIdeal.τ Cert.KernelIdeal.sig) → Buf (Elt Ideal) ℓ) : Prop :=
  ∀ c : Dev Cert.KernelIdeal.nD,
    (Cert.Pre_penalty_is_one.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_penalty_is_one [hPre_penalty_is_one : Cert.Pre_penalty_is_one.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_penalty_is_one.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_penalty_is_one [hKernelIdeal : Cert.KernelIdeal.Facts] [hPre_penalty_is_one : Cert.Pre_penalty_is_one.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_penalty_is_one m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_penalty_is_one [hReferenceIdeal : Cert.ReferenceIdeal.Facts] [hPre_penalty_is_one : Cert.Pre_penalty_is_one.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_penalty_is_one m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_penalty_is_one [hKernelIdeal : Cert.KernelIdeal.Facts] [hReferenceIdeal : Cert.ReferenceIdeal.Facts] [hPre_penalty_is_one : Cert.Pre_penalty_is_one.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_penalty_is_one m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_penalty_is_one : Cert.Pre_penalty_is_one.Facts),
    quiescent_Kernel (hKernel := hKernel)
    ∧ quiescent_KernelIdeal (hKernelIdeal := hKernelIdeal)
    ∧ quiescent_KernelIdeal_pre_penalty_is_one (hKernelIdeal := hKernelIdeal) (hPre_penalty_is_one := hPre_penalty_is_one)
    ∧ quiescent_ReferenceIdeal (hReferenceIdeal := hReferenceIdeal)
    ∧ quiescent_ReferenceIdeal_pre_penalty_is_one (hReferenceIdeal := hReferenceIdeal) (hPre_penalty_is_one := hPre_penalty_is_one)
    ∧ preserves_Kernel_KernelIdeal
    ∧ algebraic_KernelIdeal_ReferenceIdeal_pre_penalty_is_one (hKernelIdeal := hKernelIdeal) (hReferenceIdeal := hReferenceIdeal) (hPre_penalty_is_one := hPre_penalty_is_one)
-- ==== Pre_penalty_is_one.lean ====
abbrev S32x1000000 : Shape := ⟨2, ![32, 1000000]⟩
abbrev S_ : Shape := ⟨0, ![]⟩

class Facts : Prop where
  bcast_S_S32x1000000 : S_.BroadcastsInDim S32x1000000 (![] : Fin 0 → Fin S32x1000000.rank)
  reducesTo_S32x1000000_S_d0_1 : S32x1000000.ReducesTo [0, 1] S_
  h_S_ : 0 < S_.numel

variable [Facts]

def fn {F : FTy → Type} [FloatOps F] (main_arg0 : FVec F S32x1000000 .f32) (main_arg1 : FVec F S32x1000000 .f32) (main_arg2 : FVec F S_ .f32) : IVec S_ 1 :=
  let main_cst : FVec F S_ .f32 := constant S_ .f32 0x3F800000#32
  let main_v0 : FVec F S32x1000000 .f32 := broadcastInDim S32x1000000 ![] bcast_S_S32x1000000 main_cst
  let main_v1 : IVec S32x1000000 1 := cmpf .oeq main_arg0 main_v0
  let main_c : IVec S_ 1 := constantI S_ 1 1#1
  let main_v2 : IVec S_ 1 := (fun x v => Host.reduce IntOp.andi x v reducesTo_S32x1000000_S_d0_1 h_S_) main_v1 main_c
  main_v2
-- ==== Kernel.lean ====
abbrev S32x1000000 : Shape := ⟨2, ![32, 1000000]⟩
abbrev S_ : Shape := ⟨0, ![]⟩
abbrev S1x1 : Shape := ⟨2, ![1, 1]⟩
abbrev S32x1 : Shape := ⟨2, ![32, 1]⟩
abbrev S32x71680 : Shape := ⟨2, ![32, 71680]⟩
abbrev S32x128 : Shape := ⟨2, ![32, 128]⟩
abbrev S32 : Shape := ⟨1, ![32]⟩
abbrev S1x32x1 : Shape := ⟨3, ![1, 32, 1]⟩
abbrev S1 : Shape := ⟨1, ![1]⟩
abbrev S1x1x1 : Shape := ⟨3, ![1, 1, 1]⟩

abbrev nBuf : Space → Nat
  | .hbm => 6
  | .vmem => 7
  | .smem => 2
  | _ => 0

abbrev bufTy : (tb : Table) → Fin (tcTables nBuf tb) → BufTy
  | .hbm, ⟨0, _⟩ => ⟨S32x1000000, .f32⟩
  | .hbm, ⟨1, _⟩ => ⟨S32x1000000, .f32⟩
  | .hbm, ⟨2, _⟩ => ⟨S_, .f32⟩
  | .hbm, ⟨3, _⟩ => ⟨S1x1, .f32⟩
  | .hbm, ⟨4, _⟩ => ⟨S32x1000000, .f32⟩
  | .hbm, ⟨5, _⟩ => ⟨S32x1, .i32⟩
  | .local _ .vmem, ⟨0, _⟩ => ⟨S32x71680, .f32⟩
  | .local _ .vmem, ⟨1, _⟩ => ⟨S32x71680, .f32⟩
  | .local _ .vmem, ⟨2, _⟩ => ⟨S32x71680, .f32⟩
  | .local _ .vmem, ⟨3, _⟩ => ⟨S32x71680, .f32⟩
  | .local _ .vmem, ⟨4, _⟩ => ⟨S32x1, .i32⟩
  | .local _ .vmem, ⟨5, _⟩ => ⟨S32x128, .f32⟩
  | .local _ .vmem, ⟨6, _⟩ => ⟨S32x128, .i32⟩
  | .local _ .smem, ⟨0, _⟩ => ⟨S1x1, .f32⟩
  | .local _ .smem, ⟨1, _⟩ => ⟨S32, .i32⟩
  | _, _ => ⟨S32x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_stg0_0 : Ref sig .tc := ⟨.smem, 0, rfl⟩
abbrev cc0_scratch2 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨2, ![2, 14], ![false, false]⟩

def k0_cond4 (i : grid0.Coords) : BitVec 1 :=
  let arg0 : BitVec 32 := BitVec.ofNat 32 (i 0).val
  let c1_i32 : BitVec 32 := 1#32
  let v16 : BitVec 1 := Scalar.cmpi .eq arg0 c1_i32
  let v17 : BitVec 32 := Scalar.extui v16
  let c0_i32_7 : BitVec 32 := 0#32
  let v18 : BitVec 1 := Scalar.cmpi .ne v17 c0_i32_7
  v18

def k0_mult1 (i : grid0.Coords) (v23 : BitVec 32) : BitVec 32 :=
  let arg1 : BitVec 32 := BitVec.ofNat 32 (i 1).val
  let c71680_i32 : BitVec 32 := 71680#32
  let v19 : BitVec 32 := Scalar.muli arg1 c71680_i32
  let v24 : BitVec 32 := Scalar.subi v23 v19
  let c0_i32_108 : BitVec 32 := 0#32
  let v248 : BitVec 1 := Scalar.cmpi .sgt v24 c0_i32_108
  let v249 : BitVec 32 := Scalar.extui v248
  let c0_i32_109 : BitVec 32 := 0#32
  let v250 : BitVec 1 := Scalar.cmpi .slt v24 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v24 c128_i32
  let c0_i32_112 : BitVec 32 := 0#32
  let v260 : BitVec 1 := Scalar.cmpi .ne v259 c0_i32_112
  let v261 : BitVec 1 := Scalar.andi v258 v260
  let v247 : BitVec 32 := Scalar.divsi v24 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  v264
def k0_cond5 (i : grid0.Coords) (v23 : BitVec 32) : BitVec 1 :=
  let arg1 : BitVec 32 := BitVec.ofNat 32 (i 1).val
  let c71680_i32 : BitVec 32 := 71680#32
  let v19 : BitVec 32 := Scalar.muli arg1 c71680_i32
  let v24 : BitVec 32 := Scalar.subi v23 v19
  let c0_i32_12 : BitVec 32 := 0#32
  let v25 : BitVec 1 := Scalar.cmpi .sge v24 c0_i32_12
  let c71680_i32_13 : BitVec 32 := 71680#32
  let v26 : BitVec 1 := Scalar.cmpi .slt v24 c71680_i32_13
  let v27 : BitVec 1 := Scalar.andi v25 v26
  let v28 : BitVec 32 := Scalar.extui v27
  let c0_i32_14 : BitVec 32 := 0#32
  let v29 : BitVec 1 := Scalar.cmpi .ne v28 c0_i32_14
  v29

def k0_off1 (i : grid0.Coords) (v23 : BitVec 32) : Fin 2 → Nat :=
  let c0_115 : Index := 0#32
  let arg1 : BitVec 32 := BitVec.ofNat 32 (i 1).val
  let c71680_i32 : BitVec 32 := 71680#32
  let v19 : BitVec 32 := Scalar.muli arg1 c71680_i32
  let v24 : BitVec 32 := Scalar.subi v23 v19
  let c0_i32_108 : BitVec 32 := 0#32
  let v248 : BitVec 1 := Scalar.cmpi .sgt v24 c0_i32_108
  let v249 : BitVec 32 := Scalar.extui v248
  let c0_i32_109 : BitVec 32 := 0#32
  let v250 : BitVec 1 := Scalar.cmpi .slt v24 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v24 c128_i32
  let c0_i32_112 : BitVec 32 := 0#32
  let v260 : BitVec 1 := Scalar.cmpi .ne v259 c0_i32_112
  let v261 : BitVec 1 := Scalar.andi v258 v260
  let v247 : BitVec 32 := Scalar.divsi v24 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  let v265 : BitVec 32 := v264
  let v267 : Index := Scalar.indexCast v265
  ![0, v267.toNat]

def k0_chk1 (i : grid0.Coords) (v23 : BitVec 32) : Prop :=
  (∀ (k0_h4 : k0_cond4 i = 1#1), ∀ (k0_h5 : k0_cond5 i v23 = 1#1), 128 ∣ (k0_mult1 i v23).toNat) ∧
  (∀ (k0_h4 : k0_cond4 i = 1#1), ∀ (k0_h5 : k0_cond5 i v23 = 1#1), ∀ a, (k0_off1 i v23) a + S32x128.size a ≤ S32x71680.size a)
theorem k0_mult1_dvd : ∀ (i : grid0.Coords) (v23 : BitVec 32) (k0_hw1 : k0_chk1 i v23), ∀ (k0_h4 : k0_cond4 i = 1#1), ∀ (k0_h5 : k0_cond5 i v23 = 1#1), 128 ∣ (k0_mult1 i v23).toNat := fun i v23 k0_hw1 k0_h4 k0_h5 => k0_hw1.1 k0_h4 k0_h5
theorem k0_off1_inb : ∀ (i : grid0.Coords) (v23 : BitVec 32) (k0_hw1 : k0_chk1 i v23), ∀ (k0_h4 : k0_cond4 i = 1#1), ∀ (k0_h5 : k0_cond5 i v23 = 1#1), ∀ a, (k0_off1 i v23) a + S32x128.size a ≤ S32x71680.size a := fun i v23 k0_hw1 k0_h4 k0_h5 => k0_hw1.2 k0_h4 k0_h5

def k0_mult2 (i : grid0.Coords) (v30 : BitVec 32) : BitVec 32 :=
  let arg1 : BitVec 32 := BitVec.ofNat 32 (i 1).val
  let c71680_i32 : BitVec 32 := 71680#32
  let v19 : BitVec 32 := Scalar.muli arg1 c71680_i32
  let v31 : BitVec 32 := Scalar.subi v30 v19
  let c0_i32_108 : BitVec 32 := 0#32
  let v248 : BitVec 1 := Scalar.cmpi .sgt v31 c0_i32_108
  let v249 : BitVec 32 := Scalar.extui v248
  let c0_i32_109 : BitVec 32 := 0#32
  let v250 : BitVec 1 := Scalar.cmpi .slt v31 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v31 c128_i32
  let c0_i32_112 : BitVec 32 := 0#32
  let v260 : BitVec 1 := Scalar.cmpi .ne v259 c0_i32_112
  let v261 : BitVec 1 := Scalar.andi v258 v260
  let v247 : BitVec 32 := Scalar.divsi v31 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  v264
def k0_cond6 (i : grid0.Coords) (v30 : BitVec 32) : BitVec 1 :=
  let arg1 : BitVec 32 := BitVec.ofNat 32 (i 1).val
  let c71680_i32 : BitVec 32 := 71680#32
  let v19 : BitVec 32 := Scalar.muli arg1 c71680_i32
  let v31 : BitVec 32 := Scalar.subi v30 v19
  let c0_i32_15 : BitVec 32 := 0#32
  let v32 : BitVec 1 := Scalar.cmpi .sge v31 c0_i32_15
  let c71680_i32_16 : BitVec 32 := 71680#32
  let v33 : BitVec 1 := Scalar.cmpi .slt v31 c71680_i32_16
  let v34 : BitVec 1 := Scalar.andi v32 v33
  let v35 : BitVec 32 := Scalar.extui v34
  let c0_i32_17 : BitVec 32 := 0#32
  let v36 : BitVec 1 := Scalar.cmpi .ne v35 c0_i32_17
  v36

def k0_off2 (i : grid0.Coords) (v30 : BitVec 32) : Fin 2 → Nat :=
  let c0_115 : Index := 0#32
  let arg1 : BitVec 32 := BitVec.ofNat 32 (i 1).val
  let c71680_i32 : BitVec 32 := 71680#32
  let v19 : BitVec 32 := Scalar.muli arg1 c71680_i32
  let v31 : BitVec 32 := Scalar.subi v30 v19
  let c0_i32_108 : BitVec 32 := 0#32
  let v248 : BitVec 1 := Scalar.cmpi .sgt v31 c0_i32_108
  let v249 : BitVec 32 := Scalar.extui v248
  let c0_i32_109 : BitVec 32 := 0#32
  let v250 : BitVec 1 := Scalar.cmpi .slt v31 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v31 c128_i32
  let c0_i32_112 : BitVec 32 := 0#32
  let v260 : BitVec 1 := Scalar.cmpi .ne v259 c0_i32_112
  let v261 : BitVec 1 := Scalar.andi v258 v260
  let v247 : BitVec 32 := Scalar.divsi v31 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  let v265 : BitVec 32 := v264
  let v267 : Index := Scalar.indexCast v265
  ![0, v267.toNat]

def k0_chk2 (i : grid0.Coords) (v30 : BitVec 32) : Prop :=
  (∀ (k0_h4 : k0_cond4 i = 1#1), ∀ (k0_h6 : k0_cond6 i v30 = 1#1), 128 ∣ (k0_mult2 i v30).toNat) ∧
  (∀ (k0_h4 : k0_cond4 i = 1#1), ∀ (k0_h6 : k0_cond6 i v30 = 1#1), ∀ a, (k0_off2 i v30) a + S32x128.size a ≤ S32x71680.size a)
theorem k0_mult2_dvd : ∀ (i : grid0.Coords) (v30 : BitVec 32) (k0_hw2 : k0_chk2 i v30), ∀ (k0_h4 : k0_cond4 i = 1#1), ∀ (k0_h6 : k0_cond6 i v30 = 1#1), 128 ∣ (k0_mult2 i v30).toNat := fun i v30 k0_hw2 k0_h4 k0_h6 => k0_hw2.1 k0_h4 k0_h6
theorem k0_off2_inb : ∀ (i : grid0.Coords) (v30 : BitVec 32) (k0_hw2 : k0_chk2 i v30), ∀ (k0_h4 : k0_cond4 i = 1#1), ∀ (k0_h6 : k0_cond6 i v30 = 1#1), ∀ a, (k0_off2 i v30) a + S32x128.size a ≤ S32x71680.size a := fun i v30 k0_hw2 k0_h4 k0_h6 => k0_hw2.2 k0_h4 k0_h6

def k0_mult3 (i : grid0.Coords) (v37 : BitVec 32) : BitVec 32 :=
  let arg1 : BitVec 32 := BitVec.ofNat 32 (i 1).val
  let c71680_i32 : BitVec 32 := 71680#32
  let v19 : BitVec 32 := Scalar.muli arg1 c71680_i32
  let v38 : BitVec 32 := Scalar.subi v37 v19
  let c0_i32_108 : BitVec 32 := 0#32
  let v248 : BitVec 1 := Scalar.cmpi .sgt v38 c0_i32_108
  let v249 : BitVec 32 := Scalar.extui v248
  let c0_i32_109 : BitVec 32 := 0#32
  let v250 : BitVec 1 := Scalar.cmpi .slt v38 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v38 c128_i32
  let c0_i32_112 : BitVec 32 := 0#32
  let v260 : BitVec 1 := Scalar.cmpi .ne v259 c0_i32_112
  let v261 : BitVec 1 := Scalar.andi v258 v260
  let v247 : BitVec 32 := Scalar.divsi v38 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  v264
def k0_cond7 (i : grid0.Coords) (v37 : BitVec 32) : BitVec 1 :=
  let arg1 : BitVec 32 := BitVec.ofNat 32 (i 1).val
  let c71680_i32 : BitVec 32 := 71680#32
  let v19 : BitVec 32 := Scalar.muli arg1 c71680_i32
  let v38 : BitVec 32 := Scalar.subi v37 v19
  let c0_i32_18 : BitVec 32 := 0#32
  let v39 : BitVec 1 := Scalar.cmpi .sge v38 c0_i32_18
  let c71680_i32_19 : BitVec 32 := 71680#32
  let v40 : BitVec 1 := Scalar.cmpi .slt v38 c71680_i32_19
  let v41 : BitVec 1 := Scalar.andi v39 v40
  let v42 : BitVec 32 := Scalar.extui v41
  let c0_i32_20 : BitVec 32 := 0#32
  let v43 : BitVec 1 := Scalar.cmpi .ne v42 c0_i32_20
  v43

def k0_off3 (i : grid0.Coords) (v37 : BitVec 32) : Fin 2 → Nat :=
  let c0_115 : Index := 0#32
  let arg1 : BitVec 32 := BitVec.ofNat 32 (i 1).val
  let c71680_i32 : BitVec 32 := 71680#32
  let v19 : BitVec 32 := Scalar.muli arg1 c71680_i32
  let v38 : BitVec 32 := Scalar.subi v37 v19
  let c0_i32_108 : BitVec 32 := 0#32
  let v248 : BitVec 1 := Scalar.cmpi .sgt v38 c0_i32_108
  let v249 : BitVec 32 := Scalar.extui v248
  let c0_i32_109 : BitVec 32 := 0#32
  let v250 : BitVec 1 := Scalar.cmpi .slt v38 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v38 c128_i32
  let c0_i32_112 : BitVec 32 := 0#32
  let v260 : BitVec 1 := Scalar.cmpi .ne v259 c0_i32_112
  let v261 : BitVec 1 := Scalar.andi v258 v260
  let v247 : BitVec 32 := Scalar.divsi v38 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  let v265 : BitVec 32 := v264
  let v267 : Index := Scalar.indexCast v265
  ![0, v267.toNat]

def k0_chk3 (i : grid0.Coords) (v37 : BitVec 32) : Prop :=
  (∀ (k0_h4 : k0_cond4 i = 1#1), ∀ (k0_h7 : k0_cond7 i v37 = 1#1), 128 ∣ (k0_mult3 i v37).toNat) ∧
  (∀ (k0_h4 : k0_cond4 i = 1#1), ∀ (k0_h7 : k0_cond7 i v37 = 1#1), ∀ a, (k0_off3 i v37) a + S32x128.size a ≤ S32x71680.size a)
theorem k0_mult3_dvd : ∀ (i : grid0.Coords) (v37 : BitVec 32) (k0_hw3 : k0_chk3 i v37), ∀ (k0_h4 : k0_cond4 i = 1#1), ∀ (k0_h7 : k0_cond7 i v37 = 1#1), 128 ∣ (k0_mult3 i v37).toNat := fun i v37 k0_hw3 k0_h4 k0_h7 => k0_hw3.1 k0_h4 k0_h7
theorem k0_off3_inb : ∀ (i : grid0.Coords) (v37 : BitVec 32) (k0_hw3 : k0_chk3 i v37), ∀ (k0_h4 : k0_cond4 i = 1#1), ∀ (k0_h7 : k0_cond7 i v37 = 1#1), ∀ a, (k0_off3 i v37) a + S32x128.size a ≤ S32x71680.size a := fun i v37 k0_hw3 k0_h4 k0_h7 => k0_hw3.2 k0_h4 k0_h7

def k0_mult4 (i : grid0.Coords) (v44 : BitVec 32) : BitVec 32 :=
  let arg1 : BitVec 32 := BitVec.ofNat 32 (i 1).val
  let c71680_i32 : BitVec 32 := 71680#32
  let v19 : BitVec 32 := Scalar.muli arg1 c71680_i32
  let v45 : BitVec 32 := Scalar.subi v44 v19
  let c0_i32_108 : BitVec 32 := 0#32
  let v248 : BitVec 1 := Scalar.cmpi .sgt v45 c0_i32_108
  let v249 : BitVec 32 := Scalar.extui v248
  let c0_i32_109 : BitVec 32 := 0#32
  let v250 : BitVec 1 := Scalar.cmpi .slt v45 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v45 c128_i32
  let c0_i32_112 : BitVec 32 := 0#32
  let v260 : BitVec 1 := Scalar.cmpi .ne v259 c0_i32_112
  let v261 : BitVec 1 := Scalar.andi v258 v260
  let v247 : BitVec 32 := Scalar.divsi v45 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  v264
def k0_cond8 (i : grid0.Coords) (v44 : BitVec 32) : BitVec 1 :=
  let arg1 : BitVec 32 := BitVec.ofNat 32 (i 1).val
  let c71680_i32 : BitVec 32 := 71680#32
  let v19 : BitVec 32 := Scalar.muli arg1 c71680_i32
  let v45 : BitVec 32 := Scalar.subi v44 v19
  let c0_i32_21 : BitVec 32 := 0#32
  let v46 : BitVec 1 := Scalar.cmpi .sge v45 c0_i32_21
  let c71680_i32_22 : BitVec 32 := 71680#32
  let v47 : BitVec 1 := Scalar.cmpi .slt v45 c71680_i32_22
  let v48 : BitVec 1 := Scalar.andi v46 v47
  let v49 : BitVec 32 := Scalar.extui v48
  let c0_i32_23 : BitVec 32 := 0#32
  let v50 : BitVec 1 := Scalar.cmpi .ne v49 c0_i32_23
  v50

def k0_off4 (i : grid0.Coords) (v44 : BitVec 32) : Fin 2 → Nat :=
  let c0_115 : Index := 0#32
  let arg1 : BitVec 32 := BitVec.ofNat 32 (i 1).val
  let c71680_i32 : BitVec 32 := 71680#32
  let v19 : BitVec 32 := Scalar.muli arg1 c71680_i32
  let v45 : BitVec 32 := Scalar.subi v44 v19
  let c0_i32_108 : BitVec 32 := 0#32
  let v248 : BitVec 1 := Scalar.cmpi .sgt v45 c0_i32_108
  let v249 : BitVec 32 := Scalar.extui v248
  let c0_i32_109 : BitVec 32 := 0#32
  let v250 : BitVec 1 := Scalar.cmpi .slt v45 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v45 c128_i32
  let c0_i32_112 : BitVec 32 := 0#32
  let v260 : BitVec 1 := Scalar.cmpi .ne v259 c0_i32_112
  let v261 : BitVec 1 := Scalar.andi v258 v260
  let v247 : BitVec 32 := Scalar.divsi v45 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  let v265 : BitVec 32 := v264
  let v267 : Index := Scalar.indexCast v265
  ![0, v267.toNat]

def k0_chk4 (i : grid0.Coords) (v44 : BitVec 32) : Prop :=
  (∀ (k0_h4 : k0_cond4 i = 1#1), ∀ (k0_h8 : k0_cond8 i v44 = 1#1), 128 ∣ (k0_mult4 i v44).toNat) ∧
  (∀ (k0_h4 : k0_cond4 i = 1#1), ∀ (k0_h8 : k0_cond8 i v44 = 1#1), ∀ a, (k0_off4 i v44) a + S32x128.size a ≤ S32x71680.size a)
theorem k0_mult4_dvd : ∀ (i : grid0.Coords) (v44 : BitVec 32) (k0_hw4 : k0_chk4 i v44), ∀ (k0_h4 : k0_cond4 i = 1#1), ∀ (k0_h8 : k0_cond8 i v44 = 1#1), 128 ∣ (k0_mult4 i v44).toNat := fun i v44 k0_hw4 k0_h4 k0_h8 => k0_hw4.1 k0_h4 k0_h8
theorem k0_off4_inb : ∀ (i : grid0.Coords) (v44 : BitVec 32) (k0_hw4 : k0_chk4 i v44), ∀ (k0_h4 : k0_cond4 i = 1#1), ∀ (k0_h8 : k0_cond8 i v44 = 1#1), ∀ a, (k0_off4 i v44) a + S32x128.size a ≤ S32x71680.size a := fun i v44 k0_hw4 k0_h4 k0_h8 => k0_hw4.2 k0_h4 k0_h8

def k0_mult5 (i : grid0.Coords) (v51 : BitVec 32) : BitVec 32 :=
  let arg1 : BitVec 32 := BitVec.ofNat 32 (i 1).val
  let c71680_i32 : BitVec 32 := 71680#32
  let v19 : BitVec 32 := Scalar.muli arg1 c71680_i32
  let v52 : BitVec 32 := Scalar.subi v51 v19
  let c0_i32_108 : BitVec 32 := 0#32
  let v248 : BitVec 1 := Scalar.cmpi .sgt v52 c0_i32_108
  let v249 : BitVec 32 := Scalar.extui v248
  let c0_i32_109 : BitVec 32 := 0#32
  let v250 : BitVec 1 := Scalar.cmpi .slt v52 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v52 c128_i32
  let c0_i32_112 : BitVec 32 := 0#32
  let v260 : BitVec 1 := Scalar.cmpi .ne v259 c0_i32_112
  let v261 : BitVec 1 := Scalar.andi v258 v260
  let v247 : BitVec 32 := Scalar.divsi v52 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  v264
def k0_cond9 (i : grid0.Coords) (v51 : BitVec 32) : BitVec 1 :=
  let arg1 : BitVec 32 := BitVec.ofNat 32 (i 1).val
  let c71680_i32 : BitVec 32 := 71680#32
  let v19 : BitVec 32 := Scalar.muli arg1 c71680_i32
  let v52 : BitVec 32 := Scalar.subi v51 v19
  let c0_i32_24 : BitVec 32 := 0#32
  let v53 : BitVec 1 := Scalar.cmpi .sge v52 c0_i32_24
  let c71680_i32_25 : BitVec 32 := 71680#32
  let v54 : BitVec 1 := Scalar.cmpi .slt v52 c71680_i32_25
  let v55 : BitVec 1 := Scalar.andi v53 v54
  let v56 : BitVec 32 := Scalar.extui v55
  let c0_i32_26 : BitVec 32 := 0#32
  let v57 : BitVec 1 := Scalar.cmpi .ne v56 c0_i32_26
  v57

def k0_off5 (i : grid0.Coords) (v51 : BitVec 32) : Fin 2 → Nat :=
  let c0_115 : Index := 0#32
  let arg1 : BitVec 32 := BitVec.ofNat 32 (i 1).val
  let c71680_i32 : BitVec 32 := 71680#32
  let v19 : BitVec 32 := Scalar.muli arg1 c71680_i32
  let v52 : BitVec 32 := Scalar.subi v51 v19
  let c0_i32_108 : BitVec 32 := 0#32
  let v248 : BitVec 1 := Scalar.cmpi .sgt v52 c0_i32_108
  let v249 : BitVec 32 := Scalar.extui v248
  let c0_i32_109 : BitVec 32 := 0#32
  let v250 : BitVec 1 := Scalar.cmpi .slt v52 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v52 c128_i32
  let c0_i32_112 : BitVec 32 := 0#32
  let v260 : BitVec 1 := Scalar.cmpi .ne v259 c0_i32_112
  let v261 : BitVec 1 := Scalar.andi v258 v260
  let v247 : BitVec 32 := Scalar.divsi v52 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  let v265 : BitVec 32 := v264
  let v267 : Index := Scalar.indexCast v265
  ![0, v267.toNat]

def k0_chk5 (i : grid0.Coords) (v51 : BitVec 32) : Prop :=
  (∀ (k0_h4 : k0_cond4 i = 1#1), ∀ (k0_h9 : k0_cond9 i v51 = 1#1), 128 ∣ (k0_mult5 i v51).toNat) ∧
  (∀ (k0_h4 : k0_cond4 i = 1#1), ∀ (k0_h9 : k0_cond9 i v51 = 1#1), ∀ a, (k0_off5 i v51) a + S32x128.size a ≤ S32x71680.size a)
theorem k0_mult5_dvd : ∀ (i : grid0.Coords) (v51 : BitVec 32) (k0_hw5 : k0_chk5 i v51), ∀ (k0_h4 : k0_cond4 i = 1#1), ∀ (k0_h9 : k0_cond9 i v51 = 1#1), 128 ∣ (k0_mult5 i v51).toNat := fun i v51 k0_hw5 k0_h4 k0_h9 => k0_hw5.1 k0_h4 k0_h9
theorem k0_off5_inb : ∀ (i : grid0.Coords) (v51 : BitVec 32) (k0_hw5 : k0_chk5 i v51), ∀ (k0_h4 : k0_cond4 i = 1#1), ∀ (k0_h9 : k0_cond9 i v51 = 1#1), ∀ a, (k0_off5 i v51) a + S32x128.size a ≤ S32x71680.size a := fun i v51 k0_hw5 k0_h4 k0_h9 => k0_hw5.2 k0_h4 k0_h9

def k0_mult6 (i : grid0.Coords) (v58 : BitVec 32) : BitVec 32 :=
  let arg1 : BitVec 32 := BitVec.ofNat 32 (i 1).val
  let c71680_i32 : BitVec 32 := 71680#32
  let v19 : BitVec 32 := Scalar.muli arg1 c71680_i32
  let v59 : BitVec 32 := Scalar.subi v58 v19
  let c0_i32_108 : BitVec 32 := 0#32
  let v248 : BitVec 1 := Scalar.cmpi .sgt v59 c0_i32_108
  let v249 : BitVec 32 := Scalar.extui v248
  let c0_i32_109 : BitVec 32 := 0#32
  let v250 : BitVec 1 := Scalar.cmpi .slt v59 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v59 c128_i32
  let c0_i32_112 : BitVec 32 := 0#32
  let v260 : BitVec 1 := Scalar.cmpi .ne v259 c0_i32_112
  let v261 : BitVec 1 := Scalar.andi v258 v260
  let v247 : BitVec 32 := Scalar.divsi v59 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  v264
def k0_cond10 (i : grid0.Coords) (v58 : BitVec 32) : BitVec 1 :=
  let arg1 : BitVec 32 := BitVec.ofNat 32 (i 1).val
  let c71680_i32 : BitVec 32 := 71680#32
  let v19 : BitVec 32 := Scalar.muli arg1 c71680_i32
  let v59 : BitVec 32 := Scalar.subi v58 v19
  let c0_i32_27 : BitVec 32 := 0#32
  let v60 : BitVec 1 := Scalar.cmpi .sge v59 c0_i32_27
  let c71680_i32_28 : BitVec 32 := 71680#32
  let v61 : BitVec 1 := Scalar.cmpi .slt v59 c71680_i32_28
  let v62 : BitVec 1 := Scalar.andi v60 v61
  let v63 : BitVec 32 := Scalar.extui v62
  let c0_i32_29 : BitVec 32 := 0#32
  let v64 : BitVec 1 := Scalar.cmpi .ne v63 c0_i32_29
  v64

def k0_off6 (i : grid0.Coords) (v58 : BitVec 32) : Fin 2 → Nat :=
  let c0_115 : Index := 0#32
  let arg1 : BitVec 32 := BitVec.ofNat 32 (i 1).val
  let c71680_i32 : BitVec 32 := 71680#32
  let v19 : BitVec 32 := Scalar.muli arg1 c71680_i32
  let v59 : BitVec 32 := Scalar.subi v58 v19
  let c0_i32_108 : BitVec 32 := 0#32
  let v248 : BitVec 1 := Scalar.cmpi .sgt v59 c0_i32_108
  let v249 : BitVec 32 := Scalar.extui v248
  let c0_i32_109 : BitVec 32 := 0#32
  let v250 : BitVec 1 := Scalar.cmpi .slt v59 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v59 c128_i32
  let c0_i32_112 : BitVec 32 := 0#32
  let v260 : BitVec 1 := Scalar.cmpi .ne v259 c0_i32_112
  let v261 : BitVec 1 := Scalar.andi v258 v260
  let v247 : BitVec 32 := Scalar.divsi v59 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  let v265 : BitVec 32 := v264
  let v267 : Index := Scalar.indexCast v265
  ![0, v267.toNat]

def k0_chk6 (i : grid0.Coords) (v58 : BitVec 32) : Prop :=
  (∀ (k0_h4 : k0_cond4 i = 1#1), ∀ (k0_h10 : k0_cond10 i v58 = 1#1), 128 ∣ (k0_mult6 i v58).toNat) ∧
  (∀ (k0_h4 : k0_cond4 i = 1#1), ∀ (k0_h10 : k0_cond10 i v58 = 1#1), ∀ a, (k0_off6 i v58) a + S32x128.size a ≤ S32x71680.size a)
theorem k0_mult6_dvd : ∀ (i : grid0.Coords) (v58 : BitVec 32) (k0_hw6 : k0_chk6 i v58), ∀ (k0_h4 : k0_cond4 i = 1#1), ∀ (k0_h10 : k0_cond10 i v58 = 1#1), 128 ∣ (k0_mult6 i v58).toNat := fun i v58 k0_hw6 k0_h4 k0_h10 => k0_hw6.1 k0_h4 k0_h10
theorem k0_off6_inb : ∀ (i : grid0.Coords) (v58 : BitVec 32) (k0_hw6 : k0_chk6 i v58), ∀ (k0_h4 : k0_cond4 i = 1#1), ∀ (k0_h10 : k0_cond10 i v58 = 1#1), ∀ a, (k0_off6 i v58) a + S32x128.size a ≤ S32x71680.size a := fun i v58 k0_hw6 k0_h4 k0_h10 => k0_hw6.2 k0_h4 k0_h10

def k0_mult7 (i : grid0.Coords) (v65 : BitVec 32) : BitVec 32 :=
  let arg1 : BitVec 32 := BitVec.ofNat 32 (i 1).val
  let c71680_i32 : BitVec 32 := 71680#32
  let v19 : BitVec 32 := Scalar.muli arg1 c71680_i32
  let v66 : BitVec 32 := Scalar.subi v65 v19
  let c0_i32_108 : BitVec 32 := 0#32
  let v248 : BitVec 1 := Scalar.cmpi .sgt v66 c0_i32_108
  let v249 : BitVec 32 := Scalar.extui v248
  let c0_i32_109 : BitVec 32 := 0#32
  let v250 : BitVec 1 := Scalar.cmpi .slt v66 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v66 c128_i32
  let c0_i32_112 : BitVec 32 := 0#32
  let v260 : BitVec 1 := Scalar.cmpi .ne v259 c0_i32_112
  let v261 : BitVec 1 := Scalar.andi v258 v260
  let v247 : BitVec 32 := Scalar.divsi v66 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  v264
def k0_cond11 (i : grid0.Coords) (v65 : BitVec 32) : BitVec 1 :=
  let arg1 : BitVec 32 := BitVec.ofNat 32 (i 1).val
  let c71680_i32 : BitVec 32 := 71680#32
  let v19 : BitVec 32 := Scalar.muli arg1 c71680_i32
  let v66 : BitVec 32 := Scalar.subi v65 v19
  let c0_i32_30 : BitVec 32 := 0#32
  let v67 : BitVec 1 := Scalar.cmpi .sge v66 c0_i32_30
  let c71680_i32_31 : BitVec 32 := 71680#32
  let v68 : BitVec 1 := Scalar.cmpi .slt v66 c71680_i32_31
  let v69 : BitVec 1 := Scalar.andi v67 v68
  let v70 : BitVec 32 := Scalar.extui v69
  let c0_i32_32 : BitVec 32 := 0#32
  let v71 : BitVec 1 := Scalar.cmpi .ne v70 c0_i32_32
  v71

def k0_off7 (i : grid0.Coords) (v65 : BitVec 32) : Fin 2 → Nat :=
  let c0_115 : Index := 0#32
  let arg1 : BitVec 32 := BitVec.ofNat 32 (i 1).val
  let c71680_i32 : BitVec 32 := 71680#32
  let v19 : BitVec 32 := Scalar.muli arg1 c71680_i32
  let v66 : BitVec 32 := Scalar.subi v65 v19
  let c0_i32_108 : BitVec 32 := 0#32
  let v248 : BitVec 1 := Scalar.cmpi .sgt v66 c0_i32_108
  let v249 : BitVec 32 := Scalar.extui v248
  let c0_i32_109 : BitVec 32 := 0#32
  let v250 : BitVec 1 := Scalar.cmpi .slt v66 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v66 c128_i32
  let c0_i32_112 : BitVec 32 := 0#32
  let v260 : BitVec 1 := Scalar.cmpi .ne v259 c0_i32_112
  let v261 : BitVec 1 := Scalar.andi v258 v260
  let v247 : BitVec 32 := Scalar.divsi v66 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  let v265 : BitVec 32 := v264
  let v267 : Index := Scalar.indexCast v265
  ![0, v267.toNat]

def k0_chk7 (i : grid0.Coords) (v65 : BitVec 32) : Prop :=
  (∀ (k0_h4 : k0_cond4 i = 1#1), ∀ (k0_h11 : k0_cond11 i v65 = 1#1), 128 ∣ (k0_mult7 i v65).toNat) ∧
  (∀ (k0_h4 : k0_cond4 i = 1#1), ∀ (k0_h11 : k0_cond11 i v65 = 1#1), ∀ a, (k0_off7 i v65) a + S32x128.size a ≤ S32x71680.size a)
theorem k0_mult7_dvd : ∀ (i : grid0.Coords) (v65 : BitVec 32) (k0_hw7 : k0_chk7 i v65), ∀ (k0_h4 : k0_cond4 i = 1#1), ∀ (k0_h11 : k0_cond11 i v65 = 1#1), 128 ∣ (k0_mult7 i v65).toNat := fun i v65 k0_hw7 k0_h4 k0_h11 => k0_hw7.1 k0_h4 k0_h11
theorem k0_off7_inb : ∀ (i : grid0.Coords) (v65 : BitVec 32) (k0_hw7 : k0_chk7 i v65), ∀ (k0_h4 : k0_cond4 i = 1#1), ∀ (k0_h11 : k0_cond11 i v65 = 1#1), ∀ a, (k0_off7 i v65) a + S32x128.size a ≤ S32x71680.size a := fun i v65 k0_hw7 k0_h4 k0_h11 => k0_hw7.2 k0_h4 k0_h11

def k0_mult8 (i : grid0.Coords) (v72 : BitVec 32) : BitVec 32 :=
  let arg1 : BitVec 32 := BitVec.ofNat 32 (i 1).val
  let c71680_i32 : BitVec 32 := 71680#32
  let v19 : BitVec 32 := Scalar.muli arg1 c71680_i32
  let v73 : BitVec 32 := Scalar.subi v72 v19
  let c0_i32_108 : BitVec 32 := 0#32
  let v248 : BitVec 1 := Scalar.cmpi .sgt v73 c0_i32_108
  let v249 : BitVec 32 := Scalar.extui v248
  let c0_i32_109 : BitVec 32 := 0#32
  let v250 : BitVec 1 := Scalar.cmpi .slt v73 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v73 c128_i32
  let c0_i32_112 : BitVec 32 := 0#32
  let v260 : BitVec 1 := Scalar.cmpi .ne v259 c0_i32_112
  let v261 : BitVec 1 := Scalar.andi v258 v260
  let v247 : BitVec 32 := Scalar.divsi v73 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  v264
def k0_cond12 (i : grid0.Coords) (v72 : BitVec 32) : BitVec 1 :=
  let arg1 : BitVec 32 := BitVec.ofNat 32 (i 1).val
  let c71680_i32 : BitVec 32 := 71680#32
  let v19 : BitVec 32 := Scalar.muli arg1 c71680_i32
  let v73 : BitVec 32 := Scalar.subi v72 v19
  let c0_i32_33 : BitVec 32 := 0#32
  let v74 : BitVec 1 := Scalar.cmpi .sge v73 c0_i32_33
  let c71680_i32_34 : BitVec 32 := 71680#32
  let v75 : BitVec 1 := Scalar.cmpi .slt v73 c71680_i32_34
  let v76 : BitVec 1 := Scalar.andi v74 v75
  let v77 : BitVec 32 := Scalar.extui v76
  let c0_i32_35 : BitVec 32 := 0#32
  let v78 : BitVec 1 := Scalar.cmpi .ne v77 c0_i32_35
  v78

def k0_off8 (i : grid0.Coords) (v72 : BitVec 32) : Fin 2 → Nat :=
  let c0_115 : Index := 0#32
  let arg1 : BitVec 32 := BitVec.ofNat 32 (i 1).val
  let c71680_i32 : BitVec 32 := 71680#32
  let v19 : BitVec 32 := Scalar.muli arg1 c71680_i32
  let v73 : BitVec 32 := Scalar.subi v72 v19
  let c0_i32_108 : BitVec 32 := 0#32
  let v248 : BitVec 1 := Scalar.cmpi .sgt v73 c0_i32_108
  let v249 : BitVec 32 := Scalar.extui v248
  let c0_i32_109 : BitVec 32 := 0#32
  let v250 : BitVec 1 := Scalar.cmpi .slt v73 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v73 c128_i32
  let c0_i32_112 : BitVec 32 := 0#32
  let v260 : BitVec 1 := Scalar.cmpi .ne v259 c0_i32_112
  let v261 : BitVec 1 := Scalar.andi v258 v260
  let v247 : BitVec 32 := Scalar.divsi v73 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  let v265 : BitVec 32 := v264
  let v267 : Index := Scalar.indexCast v265
  ![0, v267.toNat]

def k0_chk8 (i : grid0.Coords) (v72 : BitVec 32) : Prop :=
  (∀ (k0_h4 : k0_cond4 i = 1#1), ∀ (k0_h12 : k0_cond12 i v72 = 1#1), 128 ∣ (k0_mult8 i v72).toNat) ∧
  (∀ (k0_h4 : k0_cond4 i = 1#1), ∀ (k0_h12 : k0_cond12 i v72 = 1#1), ∀ a, (k0_off8 i v72) a + S32x128.size a ≤ S32x71680.size a)
theorem k0_mult8_dvd : ∀ (i : grid0.Coords) (v72 : BitVec 32) (k0_hw8 : k0_chk8 i v72), ∀ (k0_h4 : k0_cond4 i = 1#1), ∀ (k0_h12 : k0_cond12 i v72 = 1#1), 128 ∣ (k0_mult8 i v72).toNat := fun i v72 k0_hw8 k0_h4 k0_h12 => k0_hw8.1 k0_h4 k0_h12
theorem k0_off8_inb : ∀ (i : grid0.Coords) (v72 : BitVec 32) (k0_hw8 : k0_chk8 i v72), ∀ (k0_h4 : k0_cond4 i = 1#1), ∀ (k0_h12 : k0_cond12 i v72 = 1#1), ∀ a, (k0_off8 i v72) a + S32x128.size a ≤ S32x71680.size a := fun i v72 k0_hw8 k0_h4 k0_h12 => k0_hw8.2 k0_h4 k0_h12

def k0_mult9 (i : grid0.Coords) (v79 : BitVec 32) : BitVec 32 :=
  let arg1 : BitVec 32 := BitVec.ofNat 32 (i 1).val
  let c71680_i32 : BitVec 32 := 71680#32
  let v19 : BitVec 32 := Scalar.muli arg1 c71680_i32
  let v80 : BitVec 32 := Scalar.subi v79 v19
  let c0_i32_108 : BitVec 32 := 0#32
  let v248 : BitVec 1 := Scalar.cmpi .sgt v80 c0_i32_108
  let v249 : BitVec 32 := Scalar.extui v248
  let c0_i32_109 : BitVec 32 := 0#32
  let v250 : BitVec 1 := Scalar.cmpi .slt v80 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v80 c128_i32
  let c0_i32_112 : BitVec 32 := 0#32
  let v260 : BitVec 1 := Scalar.cmpi .ne v259 c0_i32_112
  let v261 : BitVec 1 := Scalar.andi v258 v260
  let v247 : BitVec 32 := Scalar.divsi v80 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  v264
def k0_cond13 (i : grid0.Coords) (v79 : BitVec 32) : BitVec 1 :=
  let arg1 : BitVec 32 := BitVec.ofNat 32 (i 1).val
  let c71680_i32 : BitVec 32 := 71680#32
  let v19 : BitVec 32 := Scalar.muli arg1 c71680_i32
  let v80 : BitVec 32 := Scalar.subi v79 v19
  let c0_i32_36 : BitVec 32 := 0#32
  let v81 : BitVec 1 := Scalar.cmpi .sge v80 c0_i32_36
  let c71680_i32_37 : BitVec 32 := 71680#32
  let v82 : BitVec 1 := Scalar.cmpi .slt v80 c71680_i32_37
  let v83 : BitVec 1 := Scalar.andi v81 v82
  let v84 : BitVec 32 := Scalar.extui v83
  let c0_i32_38 : BitVec 32 := 0#32
  let v85 : BitVec 1 := Scalar.cmpi .ne v84 c0_i32_38
  v85

def k0_off9 (i : grid0.Coords) (v79 : BitVec 32) : Fin 2 → Nat :=
  let c0_115 : Index := 0#32
  let arg1 : BitVec 32 := BitVec.ofNat 32 (i 1).val
  let c71680_i32 : BitVec 32 := 71680#32
  let v19 : BitVec 32 := Scalar.muli arg1 c71680_i32
  let v80 : BitVec 32 := Scalar.subi v79 v19
  let c0_i32_108 : BitVec 32 := 0#32
  let v248 : BitVec 1 := Scalar.cmpi .sgt v80 c0_i32_108
  let v249 : BitVec 32 := Scalar.extui v248
  let c0_i32_109 : BitVec 32 := 0#32
  let v250 : BitVec 1 := Scalar.cmpi .slt v80 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v80 c128_i32
  let c0_i32_112 : BitVec 32 := 0#32
  let v260 : BitVec 1 := Scalar.cmpi .ne v259 c0_i32_112
  let v261 : BitVec 1 := Scalar.andi v258 v260
  let v247 : BitVec 32 := Scalar.divsi v80 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  let v265 : BitVec 32 := v264
  let v267 : Index := Scalar.indexCast v265
  ![0, v267.toNat]

def k0_chk9 (i : grid0.Coords) (v79 : BitVec 32) : Prop :=
  (∀ (k0_h4 : k0_cond4 i = 1#1), ∀ (k0_h13 : k0_cond13 i v79 = 1#1), 128 ∣ (k0_mult9 i v79).toNat) ∧
  (∀ (k0_h4 : k0_cond4 i = 1#1), ∀ (k0_h13 : k0_cond13 i v79 = 1#1), ∀ a, (k0_off9 i v79) a + S32x128.size a ≤ S32x71680.size a)
theorem k0_mult9_dvd : ∀ (i : grid0.Coords) (v79 : BitVec 32) (k0_hw9 : k0_chk9 i v79), ∀ (k0_h4 : k0_cond4 i = 1#1), ∀ (k0_h13 : k0_cond13 i v79 = 1#1), 128 ∣ (k0_mult9 i v79).toNat := fun i v79 k0_hw9 k0_h4 k0_h13 => k0_hw9.1 k0_h4 k0_h13
theorem k0_off9_inb : ∀ (i : grid0.Coords) (v79 : BitVec 32) (k0_hw9 : k0_chk9 i v79), ∀ (k0_h4 : k0_cond4 i = 1#1), ∀ (k0_h13 : k0_cond13 i v79 = 1#1), ∀ a, (k0_off9 i v79) a + S32x128.size a ≤ S32x71680.size a := fun i v79 k0_hw9 k0_h4 k0_h13 => k0_hw9.2 k0_h4 k0_h13

def k0_mult10 (i : grid0.Coords) (v86 : BitVec 32) : BitVec 32 :=
  let arg1 : BitVec 32 := BitVec.ofNat 32 (i 1).val
  let c71680_i32 : BitVec 32 := 71680#32
  let v19 : BitVec 32 := Scalar.muli arg1 c71680_i32
  let v87 : BitVec 32 := Scalar.subi v86 v19
  let c0_i32_108 : BitVec 32 := 0#32
  let v248 : BitVec 1 := Scalar.cmpi .sgt v87 c0_i32_108
  let v249 : BitVec 32 := Scalar.extui v248
  let c0_i32_109 : BitVec 32 := 0#32
  let v250 : BitVec 1 := Scalar.cmpi .slt v87 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v87 c128_i32
  let c0_i32_112 : BitVec 32 := 0#32
  let v260 : BitVec 1 := Scalar.cmpi .ne v259 c0_i32_112
  let v261 : BitVec 1 := Scalar.andi v258 v260
  let v247 : BitVec 32 := Scalar.divsi v87 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  v264
def k0_cond14 (i : grid0.Coords) (v86 : BitVec 32) : BitVec 1 :=
  let arg1 : BitVec 32 := BitVec.ofNat 32 (i 1).val
  let c71680_i32 : BitVec 32 := 71680#32
  let v19 : BitVec 32 := Scalar.muli arg1 c71680_i32
  let v87 : BitVec 32 := Scalar.subi v86 v19
  let c0_i32_39 : BitVec 32 := 0#32
  let v88 : BitVec 1 := Scalar.cmpi .sge v87 c0_i32_39
  let c71680_i32_40 : BitVec 32 := 71680#32
  let v89 : BitVec 1 := Scalar.cmpi .slt v87 c71680_i32_40
  let v90 : BitVec 1 := Scalar.andi v88 v89
  let v91 : BitVec 32 := Scalar.extui v90
  let c0_i32_41 : BitVec 32 := 0#32
  let v92 : BitVec 1 := Scalar.cmpi .ne v91 c0_i32_41
  v92

def k0_off10 (i : grid0.Coords) (v86 : BitVec 32) : Fin 2 → Nat :=
  let c0_115 : Index := 0#32
  let arg1 : BitVec 32 := BitVec.ofNat 32 (i 1).val
  let c71680_i32 : BitVec 32 := 71680#32
  let v19 : BitVec 32 := Scalar.muli arg1 c71680_i32
  let v87 : BitVec 32 := Scalar.subi v86 v19
  let c0_i32_108 : BitVec 32 := 0#32
  let v248 : BitVec 1 := Scalar.cmpi .sgt v87 c0_i32_108
  let v249 : BitVec 32 := Scalar.extui v248
  let c0_i32_109 : BitVec 32 := 0#32
  let v250 : BitVec 1 := Scalar.cmpi .slt v87 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v87 c128_i32
  let c0_i32_112 : BitVec 32 := 0#32
  let v260 : BitVec 1 := Scalar.cmpi .ne v259 c0_i32_112
  let v261 : BitVec 1 := Scalar.andi v258 v260
  let v247 : BitVec 32 := Scalar.divsi v87 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  let v265 : BitVec 32 := v264
  let v267 : Index := Scalar.indexCast v265
  ![0, v267.toNat]

def k0_chk10 (i : grid0.Coords) (v86 : BitVec 32) : Prop :=
  (∀ (k0_h4 : k0_cond4 i = 1#1), ∀ (k0_h14 : k0_cond14 i v86 = 1#1), 128 ∣ (k0_mult10 i v86).toNat) ∧
  (∀ (k0_h4 : k0_cond4 i = 1#1), ∀ (k0_h14 : k0_cond14 i v86 = 1#1), ∀ a, (k0_off10 i v86) a + S32x128.size a ≤ S32x71680.size a)
theorem k0_mult10_dvd : ∀ (i : grid0.Coords) (v86 : BitVec 32) (k0_hw10 : k0_chk10 i v86), ∀ (k0_h4 : k0_cond4 i = 1#1), ∀ (k0_h14 : k0_cond14 i v86 = 1#1), 128 ∣ (k0_mult10 i v86).toNat := fun i v86 k0_hw10 k0_h4 k0_h14 => k0_hw10.1 k0_h4 k0_h14
theorem k0_off10_inb : ∀ (i : grid0.Coords) (v86 : BitVec 32) (k0_hw10 : k0_chk10 i v86), ∀ (k0_h4 : k0_cond4 i = 1#1), ∀ (k0_h14 : k0_cond14 i v86 = 1#1), ∀ a, (k0_off10 i v86) a + S32x128.size a ≤ S32x71680.size a := fun i v86 k0_hw10 k0_h4 k0_h14 => k0_hw10.2 k0_h4 k0_h14

def k0_mult11 (i : grid0.Coords) (v93 : BitVec 32) : BitVec 32 :=
  let arg1 : BitVec 32 := BitVec.ofNat 32 (i 1).val
  let c71680_i32 : BitVec 32 := 71680#32
  let v19 : BitVec 32 := Scalar.muli arg1 c71680_i32
  let v94 : BitVec 32 := Scalar.subi v93 v19
  let c0_i32_108 : BitVec 32 := 0#32
  let v248 : BitVec 1 := Scalar.cmpi .sgt v94 c0_i32_108
  let v249 : BitVec 32 := Scalar.extui v248
  let c0_i32_109 : BitVec 32 := 0#32
  let v250 : BitVec 1 := Scalar.cmpi .slt v94 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v94 c128_i32
  let c0_i32_112 : BitVec 32 := 0#32
  let v260 : BitVec 1 := Scalar.cmpi .ne v259 c0_i32_112
  let v261 : BitVec 1 := Scalar.andi v258 v260
  let v247 : BitVec 32 := Scalar.divsi v94 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  v264
def k0_cond15 (i : grid0.Coords) (v93 : BitVec 32) : BitVec 1 :=
  let arg1 : BitVec 32 := BitVec.ofNat 32 (i 1).val
  let c71680_i32 : BitVec 32 := 71680#32
  let v19 : BitVec 32 := Scalar.muli arg1 c71680_i32
  let v94 : BitVec 32 := Scalar.subi v93 v19
  let c0_i32_42 : BitVec 32 := 0#32
  let v95 : BitVec 1 := Scalar.cmpi .sge v94 c0_i32_42
  let c71680_i32_43 : BitVec 32 := 71680#32
  let v96 : BitVec 1 := Scalar.cmpi .slt v94 c71680_i32_43
  let v97 : BitVec 1 := Scalar.andi v95 v96
  let v98 : BitVec 32 := Scalar.extui v97
  let c0_i32_44 : BitVec 32 := 0#32
  let v99 : BitVec 1 := Scalar.cmpi .ne v98 c0_i32_44
  v99

def k0_off11 (i : grid0.Coords) (v93 : BitVec 32) : Fin 2 → Nat :=
  let c0_115 : Index := 0#32
  let arg1 : BitVec 32 := BitVec.ofNat 32 (i 1).val
  let c71680_i32 : BitVec 32 := 71680#32
  let v19 : BitVec 32 := Scalar.muli arg1 c71680_i32
  let v94 : BitVec 32 := Scalar.subi v93 v19
  let c0_i32_108 : BitVec 32 := 0#32
  let v248 : BitVec 1 := Scalar.cmpi .sgt v94 c0_i32_108
  let v249 : BitVec 32 := Scalar.extui v248
  let c0_i32_109 : BitVec 32 := 0#32
  let v250 : BitVec 1 := Scalar.cmpi .slt v94 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v94 c128_i32
  let c0_i32_112 : BitVec 32 := 0#32
  let v260 : BitVec 1 := Scalar.cmpi .ne v259 c0_i32_112
  let v261 : BitVec 1 := Scalar.andi v258 v260
  let v247 : BitVec 32 := Scalar.divsi v94 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  let v265 : BitVec 32 := v264
  let v267 : Index := Scalar.indexCast v265
  ![0, v267.toNat]

def k0_chk11 (i : grid0.Coords) (v93 : BitVec 32) : Prop :=
  (∀ (k0_h4 : k0_cond4 i = 1#1), ∀ (k0_h15 : k0_cond15 i v93 = 1#1), 128 ∣ (k0_mult11 i v93).toNat) ∧
  (∀ (k0_h4 : k0_cond4 i = 1#1), ∀ (k0_h15 : k0_cond15 i v93 = 1#1), ∀ a, (k0_off11 i v93) a + S32x128.size a ≤ S32x71680.size a)
theorem k0_mult11_dvd : ∀ (i : grid0.Coords) (v93 : BitVec 32) (k0_hw11 : k0_chk11 i v93), ∀ (k0_h4 : k0_cond4 i = 1#1), ∀ (k0_h15 : k0_cond15 i v93 = 1#1), 128 ∣ (k0_mult11 i v93).toNat := fun i v93 k0_hw11 k0_h4 k0_h15 => k0_hw11.1 k0_h4 k0_h15
theorem k0_off11_inb : ∀ (i : grid0.Coords) (v93 : BitVec 32) (k0_hw11 : k0_chk11 i v93), ∀ (k0_h4 : k0_cond4 i = 1#1), ∀ (k0_h15 : k0_cond15 i v93 = 1#1), ∀ a, (k0_off11 i v93) a + S32x128.size a ≤ S32x71680.size a := fun i v93 k0_hw11 k0_h4 k0_h15 => k0_hw11.2 k0_h4 k0_h15

def k0_mult12 (i : grid0.Coords) (v100 : BitVec 32) : BitVec 32 :=
  let arg1 : BitVec 32 := BitVec.ofNat 32 (i 1).val
  let c71680_i32 : BitVec 32 := 71680#32
  let v19 : BitVec 32 := Scalar.muli arg1 c71680_i32
  let v101 : BitVec 32 := Scalar.subi v100 v19
  let c0_i32_108 : BitVec 32 := 0#32
  let v248 : BitVec 1 := Scalar.cmpi .sgt v101 c0_i32_108
  let v249 : BitVec 32 := Scalar.extui v248
  let c0_i32_109 : BitVec 32 := 0#32
  let v250 : BitVec 1 := Scalar.cmpi .slt v101 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v101 c128_i32
  let c0_i32_112 : BitVec 32 := 0#32
  let v260 : BitVec 1 := Scalar.cmpi .ne v259 c0_i32_112
  let v261 : BitVec 1 := Scalar.andi v258 v260
  let v247 : BitVec 32 := Scalar.divsi v101 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  v264
def k0_cond16 (i : grid0.Coords) (v100 : BitVec 32) : BitVec 1 :=
  let arg1 : BitVec 32 := BitVec.ofNat 32 (i 1).val
  let c71680_i32 : BitVec 32 := 71680#32
  let v19 : BitVec 32 := Scalar.muli arg1 c71680_i32
  let v101 : BitVec 32 := Scalar.subi v100 v19
  let c0_i32_45 : BitVec 32 := 0#32
  let v102 : BitVec 1 := Scalar.cmpi .sge v101 c0_i32_45
  let c71680_i32_46 : BitVec 32 := 71680#32
  let v103 : BitVec 1 := Scalar.cmpi .slt v101 c71680_i32_46
  let v104 : BitVec 1 := Scalar.andi v102 v103
  let v105 : BitVec 32 := Scalar.extui v104
  let c0_i32_47 : BitVec 32 := 0#32
  let v106 : BitVec 1 := Scalar.cmpi .ne v105 c0_i32_47
  v106

def k0_off12 (i : grid0.Coords) (v100 : BitVec 32) : Fin 2 → Nat :=
  let c0_115 : Index := 0#32
  let arg1 : BitVec 32 := BitVec.ofNat 32 (i 1).val
  let c71680_i32 : BitVec 32 := 71680#32
  let v19 : BitVec 32 := Scalar.muli arg1 c71680_i32
  let v101 : BitVec 32 := Scalar.subi v100 v19
  let c0_i32_108 : BitVec 32 := 0#32
  let v248 : BitVec 1 := Scalar.cmpi .sgt v101 c0_i32_108
  let v249 : BitVec 32 := Scalar.extui v248
  let c0_i32_109 : BitVec 32 := 0#32
  let v250 : BitVec 1 := Scalar.cmpi .slt v101 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v101 c128_i32
  let c0_i32_112 : BitVec 32 := 0#32
  let v260 : BitVec 1 := Scalar.cmpi .ne v259 c0_i32_112
  let v261 : BitVec 1 := Scalar.andi v258 v260
  let v247 : BitVec 32 := Scalar.divsi v101 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  let v265 : BitVec 32 := v264
  let v267 : Index := Scalar.indexCast v265
  ![0, v267.toNat]

def k0_chk12 (i : grid0.Coords) (v100 : BitVec 32) : Prop :=
  (∀ (k0_h4 : k0_cond4 i = 1#1), ∀ (k0_h16 : k0_cond16 i v100 = 1#1), 128 ∣ (k0_mult12 i v100).toNat) ∧
  (∀ (k0_h4 : k0_cond4 i = 1#1), ∀ (k0_h16 : k0_cond16 i v100 = 1#1), ∀ a, (k0_off12 i v100) a + S32x128.size a ≤ S32x71680.size a)
theorem k0_mult12_dvd : ∀ (i : grid0.Coords) (v100 : BitVec 32) (k0_hw12 : k0_chk12 i v100), ∀ (k0_h4 : k0_cond4 i = 1#1), ∀ (k0_h16 : k0_cond16 i v100 = 1#1), 128 ∣ (k0_mult12 i v100).toNat := fun i v100 k0_hw12 k0_h4 k0_h16 => k0_hw12.1 k0_h4 k0_h16
theorem k0_off12_inb : ∀ (i : grid0.Coords) (v100 : BitVec 32) (k0_hw12 : k0_chk12 i v100), ∀ (k0_h4 : k0_cond4 i = 1#1), ∀ (k0_h16 : k0_cond16 i v100 = 1#1), ∀ a, (k0_off12 i v100) a + S32x128.size a ≤ S32x71680.size a := fun i v100 k0_hw12 k0_h4 k0_h16 => k0_hw12.2 k0_h4 k0_h16

def k0_mult13 (i : grid0.Coords) (v107 : BitVec 32) : BitVec 32 :=
  let arg1 : BitVec 32 := BitVec.ofNat 32 (i 1).val
  let c71680_i32 : BitVec 32 := 71680#32
  let v19 : BitVec 32 := Scalar.muli arg1 c71680_i32
  let v108 : BitVec 32 := Scalar.subi v107 v19
  let c0_i32_108 : BitVec 32 := 0#32
  let v248 : BitVec 1 := Scalar.cmpi .sgt v108 c0_i32_108
  let v249 : BitVec 32 := Scalar.extui v248
  let c0_i32_109 : BitVec 32 := 0#32
  let v250 : BitVec 1 := Scalar.cmpi .slt v108 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v108 c128_i32
  let c0_i32_112 : BitVec 32 := 0#32
  let v260 : BitVec 1 := Scalar.cmpi .ne v259 c0_i32_112
  let v261 : BitVec 1 := Scalar.andi v258 v260
  let v247 : BitVec 32 := Scalar.divsi v108 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  v264
def k0_cond17 (i : grid0.Coords) (v107 : BitVec 32) : BitVec 1 :=
  let arg1 : BitVec 32 := BitVec.ofNat 32 (i 1).val
  let c71680_i32 : BitVec 32 := 71680#32
  let v19 : BitVec 32 := Scalar.muli arg1 c71680_i32
  let v108 : BitVec 32 := Scalar.subi v107 v19
  let c0_i32_48 : BitVec 32 := 0#32
  let v109 : BitVec 1 := Scalar.cmpi .sge v108 c0_i32_48
  let c71680_i32_49 : BitVec 32 := 71680#32
  let v110 : BitVec 1 := Scalar.cmpi .slt v108 c71680_i32_49
  let v111 : BitVec 1 := Scalar.andi v109 v110
  let v112 : BitVec 32 := Scalar.extui v111
  let c0_i32_50 : BitVec 32 := 0#32
  let v113 : BitVec 1 := Scalar.cmpi .ne v112 c0_i32_50
  v113

def k0_off13 (i : grid0.Coords) (v107 : BitVec 32) : Fin 2 → Nat :=
  let c0_115 : Index := 0#32
  let arg1 : BitVec 32 := BitVec.ofNat 32 (i 1).val
  let c71680_i32 : BitVec 32 := 71680#32
  let v19 : BitVec 32 := Scalar.muli arg1 c71680_i32
  let v108 : BitVec 32 := Scalar.subi v107 v19
  let c0_i32_108 : BitVec 32 := 0#32
  let v248 : BitVec 1 := Scalar.cmpi .sgt v108 c0_i32_108
  let v249 : BitVec 32 := Scalar.extui v248
  let c0_i32_109 : BitVec 32 := 0#32
  let v250 : BitVec 1 := Scalar.cmpi .slt v108 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v108 c128_i32
  let c0_i32_112 : BitVec 32 := 0#32
  let v260 : BitVec 1 := Scalar.cmpi .ne v259 c0_i32_112
  let v261 : BitVec 1 := Scalar.andi v258 v260
  let v247 : BitVec 32 := Scalar.divsi v108 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  let v265 : BitVec 32 := v264
  let v267 : Index := Scalar.indexCast v265
  ![0, v267.toNat]

def k0_chk13 (i : grid0.Coords) (v107 : BitVec 32) : Prop :=
  (∀ (k0_h4 : k0_cond4 i = 1#1), ∀ (k0_h17 : k0_cond17 i v107 = 1#1), 128 ∣ (k0_mult13 i v107).toNat) ∧
  (∀ (k0_h4 : k0_cond4 i = 1#1), ∀ (k0_h17 : k0_cond17 i v107 = 1#1), ∀ a, (k0_off13 i v107) a + S32x128.size a ≤ S32x71680.size a)
theorem k0_mult13_dvd : ∀ (i : grid0.Coords) (v107 : BitVec 32) (k0_hw13 : k0_chk13 i v107), ∀ (k0_h4 : k0_cond4 i = 1#1), ∀ (k0_h17 : k0_cond17 i v107 = 1#1), 128 ∣ (k0_mult13 i v107).toNat := fun i v107 k0_hw13 k0_h4 k0_h17 => k0_hw13.1 k0_h4 k0_h17
theorem k0_off13_inb : ∀ (i : grid0.Coords) (v107 : BitVec 32) (k0_hw13 : k0_chk13 i v107), ∀ (k0_h4 : k0_cond4 i = 1#1), ∀ (k0_h17 : k0_cond17 i v107 = 1#1), ∀ a, (k0_off13 i v107) a + S32x128.size a ≤ S32x71680.size a := fun i v107 k0_hw13 k0_h4 k0_h17 => k0_hw13.2 k0_h4 k0_h17

def k0_mult14 (i : grid0.Coords) (v114 : BitVec 32) : BitVec 32 :=
  let arg1 : BitVec 32 := BitVec.ofNat 32 (i 1).val
  let c71680_i32 : BitVec 32 := 71680#32
  let v19 : BitVec 32 := Scalar.muli arg1 c71680_i32
  let v115 : BitVec 32 := Scalar.subi v114 v19
  let c0_i32_108 : BitVec 32 := 0#32
  let v248 : BitVec 1 := Scalar.cmpi .sgt v115 c0_i32_108
  let v249 : BitVec 32 := Scalar.extui v248
  let c0_i32_109 : BitVec 32 := 0#32
  let v250 : BitVec 1 := Scalar.cmpi .slt v115 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v115 c128_i32
  let c0_i32_112 : BitVec 32 := 0#32
  let v260 : BitVec 1 := Scalar.cmpi .ne v259 c0_i32_112
  let v261 : BitVec 1 := Scalar.andi v258 v260
  let v247 : BitVec 32 := Scalar.divsi v115 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  v264
def k0_cond18 (i : grid0.Coords) (v114 : BitVec 32) : BitVec 1 :=
  let arg1 : BitVec 32 := BitVec.ofNat 32 (i 1).val
  let c71680_i32 : BitVec 32 := 71680#32
  let v19 : BitVec 32 := Scalar.muli arg1 c71680_i32
  let v115 : BitVec 32 := Scalar.subi v114 v19
  let c0_i32_51 : BitVec 32 := 0#32
  let v116 : BitVec 1 := Scalar.cmpi .sge v115 c0_i32_51
  let c71680_i32_52 : BitVec 32 := 71680#32
  let v117 : BitVec 1 := Scalar.cmpi .slt v115 c71680_i32_52
  let v118 : BitVec 1 := Scalar.andi v116 v117
  let v119 : BitVec 32 := Scalar.extui v118
  let c0_i32_53 : BitVec 32 := 0#32
  let v120 : BitVec 1 := Scalar.cmpi .ne v119 c0_i32_53
  v120

def k0_off14 (i : grid0.Coords) (v114 : BitVec 32) : Fin 2 → Nat :=
  let c0_115 : Index := 0#32
  let arg1 : BitVec 32 := BitVec.ofNat 32 (i 1).val
  let c71680_i32 : BitVec 32 := 71680#32
  let v19 : BitVec 32 := Scalar.muli arg1 c71680_i32
  let v115 : BitVec 32 := Scalar.subi v114 v19
  let c0_i32_108 : BitVec 32 := 0#32
  let v248 : BitVec 1 := Scalar.cmpi .sgt v115 c0_i32_108
  let v249 : BitVec 32 := Scalar.extui v248
  let c0_i32_109 : BitVec 32 := 0#32
  let v250 : BitVec 1 := Scalar.cmpi .slt v115 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v115 c128_i32
  let c0_i32_112 : BitVec 32 := 0#32
  let v260 : BitVec 1 := Scalar.cmpi .ne v259 c0_i32_112
  let v261 : BitVec 1 := Scalar.andi v258 v260
  let v247 : BitVec 32 := Scalar.divsi v115 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  let v265 : BitVec 32 := v264
  let v267 : Index := Scalar.indexCast v265
  ![0, v267.toNat]

def k0_chk14 (i : grid0.Coords) (v114 : BitVec 32) : Prop :=
  (∀ (k0_h4 : k0_cond4 i = 1#1), ∀ (k0_h18 : k0_cond18 i v114 = 1#1), 128 ∣ (k0_mult14 i v114).toNat) ∧
  (∀ (k0_h4 : k0_cond4 i = 1#1), ∀ (k0_h18 : k0_cond18 i v114 = 1#1), ∀ a, (k0_off14 i v114) a + S32x128.size a ≤ S32x71680.size a)
theorem k0_mult14_dvd : ∀ (i : grid0.Coords) (v114 : BitVec 32) (k0_hw14 : k0_chk14 i v114), ∀ (k0_h4 : k0_cond4 i = 1#1), ∀ (k0_h18 : k0_cond18 i v114 = 1#1), 128 ∣ (k0_mult14 i v114).toNat := fun i v114 k0_hw14 k0_h4 k0_h18 => k0_hw14.1 k0_h4 k0_h18
theorem k0_off14_inb : ∀ (i : grid0.Coords) (v114 : BitVec 32) (k0_hw14 : k0_chk14 i v114), ∀ (k0_h4 : k0_cond4 i = 1#1), ∀ (k0_h18 : k0_cond18 i v114 = 1#1), ∀ a, (k0_off14 i v114) a + S32x128.size a ≤ S32x71680.size a := fun i v114 k0_hw14 k0_h4 k0_h18 => k0_hw14.2 k0_h4 k0_h18

def k0_mult15 (i : grid0.Coords) (v121 : BitVec 32) : BitVec 32 :=
  let arg1 : BitVec 32 := BitVec.ofNat 32 (i 1).val
  let c71680_i32 : BitVec 32 := 71680#32
  let v19 : BitVec 32 := Scalar.muli arg1 c71680_i32
  let v122 : BitVec 32 := Scalar.subi v121 v19
  let c0_i32_108 : BitVec 32 := 0#32
  let v248 : BitVec 1 := Scalar.cmpi .sgt v122 c0_i32_108
  let v249 : BitVec 32 := Scalar.extui v248
  let c0_i32_109 : BitVec 32 := 0#32
  let v250 : BitVec 1 := Scalar.cmpi .slt v122 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v122 c128_i32
  let c0_i32_112 : BitVec 32 := 0#32
  let v260 : BitVec 1 := Scalar.cmpi .ne v259 c0_i32_112
  let v261 : BitVec 1 := Scalar.andi v258 v260
  let v247 : BitVec 32 := Scalar.divsi v122 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  v264
def k0_cond19 (i : grid0.Coords) (v121 : BitVec 32) : BitVec 1 :=
  let arg1 : BitVec 32 := BitVec.ofNat 32 (i 1).val
  let c71680_i32 : BitVec 32 := 71680#32
  let v19 : BitVec 32 := Scalar.muli arg1 c71680_i32
  let v122 : BitVec 32 := Scalar.subi v121 v19
  let c0_i32_54 : BitVec 32 := 0#32
  let v123 : BitVec 1 := Scalar.cmpi .sge v122 c0_i32_54
  let c71680_i32_55 : BitVec 32 := 71680#32
  let v124 : BitVec 1 := Scalar.cmpi .slt v122 c71680_i32_55
  let v125 : BitVec 1 := Scalar.andi v123 v124
  let v126 : BitVec 32 := Scalar.extui v125
  let c0_i32_56 : BitVec 32 := 0#32
  let v127 : BitVec 1 := Scalar.cmpi .ne v126 c0_i32_56
  v127

def k0_off15 (i : grid0.Coords) (v121 : BitVec 32) : Fin 2 → Nat :=
  let c0_115 : Index := 0#32
  let arg1 : BitVec 32 := BitVec.ofNat 32 (i 1).val
  let c71680_i32 : BitVec 32 := 71680#32
  let v19 : BitVec 32 := Scalar.muli arg1 c71680_i32
  let v122 : BitVec 32 := Scalar.subi v121 v19
  let c0_i32_108 : BitVec 32 := 0#32
  let v248 : BitVec 1 := Scalar.cmpi .sgt v122 c0_i32_108
  let v249 : BitVec 32 := Scalar.extui v248
  let c0_i32_109 : BitVec 32 := 0#32
  let v250 : BitVec 1 := Scalar.cmpi .slt v122 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v122 c128_i32
  let c0_i32_112 : BitVec 32 := 0#32
  let v260 : BitVec 1 := Scalar.cmpi .ne v259 c0_i32_112
  let v261 : BitVec 1 := Scalar.andi v258 v260
  let v247 : BitVec 32 := Scalar.divsi v122 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  let v265 : BitVec 32 := v264
  let v267 : Index := Scalar.indexCast v265
  ![0, v267.toNat]

def k0_chk15 (i : grid0.Coords) (v121 : BitVec 32) : Prop :=
  (∀ (k0_h4 : k0_cond4 i = 1#1), ∀ (k0_h19 : k0_cond19 i v121 = 1#1), 128 ∣ (k0_mult15 i v121).toNat) ∧
  (∀ (k0_h4 : k0_cond4 i = 1#1), ∀ (k0_h19 : k0_cond19 i v121 = 1#1), ∀ a, (k0_off15 i v121) a + S32x128.size a ≤ S32x71680.size a)
theorem k0_mult15_dvd : ∀ (i : grid0.Coords) (v121 : BitVec 32) (k0_hw15 : k0_chk15 i v121), ∀ (k0_h4 : k0_cond4 i = 1#1), ∀ (k0_h19 : k0_cond19 i v121 = 1#1), 128 ∣ (k0_mult15 i v121).toNat := fun i v121 k0_hw15 k0_h4 k0_h19 => k0_hw15.1 k0_h4 k0_h19
theorem k0_off15_inb : ∀ (i : grid0.Coords) (v121 : BitVec 32) (k0_hw15 : k0_chk15 i v121), ∀ (k0_h4 : k0_cond4 i = 1#1), ∀ (k0_h19 : k0_cond19 i v121 = 1#1), ∀ a, (k0_off15 i v121) a + S32x128.size a ≤ S32x71680.size a := fun i v121 k0_hw15 k0_h4 k0_h19 => k0_hw15.2 k0_h4 k0_h19

def k0_mult16 (i : grid0.Coords) (v128 : BitVec 32) : BitVec 32 :=
  let arg1 : BitVec 32 := BitVec.ofNat 32 (i 1).val
  let c71680_i32 : BitVec 32 := 71680#32
  let v19 : BitVec 32 := Scalar.muli arg1 c71680_i32
  let v129 : BitVec 32 := Scalar.subi v128 v19
  let c0_i32_108 : BitVec 32 := 0#32
  let v248 : BitVec 1 := Scalar.cmpi .sgt v129 c0_i32_108
  let v249 : BitVec 32 := Scalar.extui v248
  let c0_i32_109 : BitVec 32 := 0#32
  let v250 : BitVec 1 := Scalar.cmpi .slt v129 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v129 c128_i32
  let c0_i32_112 : BitVec 32 := 0#32
  let v260 : BitVec 1 := Scalar.cmpi .ne v259 c0_i32_112
  let v261 : BitVec 1 := Scalar.andi v258 v260
  let v247 : BitVec 32 := Scalar.divsi v129 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  v264
def k0_cond20 (i : grid0.Coords) (v128 : BitVec 32) : BitVec 1 :=
  let arg1 : BitVec 32 := BitVec.ofNat 32 (i 1).val
  let c71680_i32 : BitVec 32 := 71680#32
  let v19 : BitVec 32 := Scalar.muli arg1 c71680_i32
  let v129 : BitVec 32 := Scalar.subi v128 v19
  let c0_i32_57 : BitVec 32 := 0#32
  let v130 : BitVec 1 := Scalar.cmpi .sge v129 c0_i32_57
  let c71680_i32_58 : BitVec 32 := 71680#32
  let v131 : BitVec 1 := Scalar.cmpi .slt v129 c71680_i32_58
  let v132 : BitVec 1 := Scalar.andi v130 v131
  let v133 : BitVec 32 := Scalar.extui v132
  let c0_i32_59 : BitVec 32 := 0#32
  let v134 : BitVec 1 := Scalar.cmpi .ne v133 c0_i32_59
  v134

def k0_off16 (i : grid0.Coords) (v128 : BitVec 32) : Fin 2 → Nat :=
  let c0_115 : Index := 0#32
  let arg1 : BitVec 32 := BitVec.ofNat 32 (i 1).val
  let c71680_i32 : BitVec 32 := 71680#32
  let v19 : BitVec 32 := Scalar.muli arg1 c71680_i32
  let v129 : BitVec 32 := Scalar.subi v128 v19
  let c0_i32_108 : BitVec 32 := 0#32
  let v248 : BitVec 1 := Scalar.cmpi .sgt v129 c0_i32_108
  let v249 : BitVec 32 := Scalar.extui v248
  let c0_i32_109 : BitVec 32 := 0#32
  let v250 : BitVec 1 := Scalar.cmpi .slt v129 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v129 c128_i32
  let c0_i32_112 : BitVec 32 := 0#32
  let v260 : BitVec 1 := Scalar.cmpi .ne v259 c0_i32_112
  let v261 : BitVec 1 := Scalar.andi v258 v260
  let v247 : BitVec 32 := Scalar.divsi v129 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  let v265 : BitVec 32 := v264
  let v267 : Index := Scalar.indexCast v265
  ![0, v267.toNat]

def k0_chk16 (i : grid0.Coords) (v128 : BitVec 32) : Prop :=
  (∀ (k0_h4 : k0_cond4 i = 1#1), ∀ (k0_h20 : k0_cond20 i v128 = 1#1), 128 ∣ (k0_mult16 i v128).toNat) ∧
  (∀ (k0_h4 : k0_cond4 i = 1#1), ∀ (k0_h20 : k0_cond20 i v128 = 1#1), ∀ a, (k0_off16 i v128) a + S32x128.size a ≤ S32x71680.size a)
theorem k0_mult16_dvd : ∀ (i : grid0.Coords) (v128 : BitVec 32) (k0_hw16 : k0_chk16 i v128), ∀ (k0_h4 : k0_cond4 i = 1#1), ∀ (k0_h20 : k0_cond20 i v128 = 1#1), 128 ∣ (k0_mult16 i v128).toNat := fun i v128 k0_hw16 k0_h4 k0_h20 => k0_hw16.1 k0_h4 k0_h20
theorem k0_off16_inb : ∀ (i : grid0.Coords) (v128 : BitVec 32) (k0_hw16 : k0_chk16 i v128), ∀ (k0_h4 : k0_cond4 i = 1#1), ∀ (k0_h20 : k0_cond20 i v128 = 1#1), ∀ a, (k0_off16 i v128) a + S32x128.size a ≤ S32x71680.size a := fun i v128 k0_hw16 k0_h4 k0_h20 => k0_hw16.2 k0_h4 k0_h20

def k0_mult17 (i : grid0.Coords) (v135 : BitVec 32) : BitVec 32 :=
  let arg1 : BitVec 32 := BitVec.ofNat 32 (i 1).val
  let c71680_i32 : BitVec 32 := 71680#32
  let v19 : BitVec 32 := Scalar.muli arg1 c71680_i32
  let v136 : BitVec 32 := Scalar.subi v135 v19
  let c0_i32_108 : BitVec 32 := 0#32
  let v248 : BitVec 1 := Scalar.cmpi .sgt v136 c0_i32_108
  let v249 : BitVec 32 := Scalar.extui v248
  let c0_i32_109 : BitVec 32 := 0#32
  let v250 : BitVec 1 := Scalar.cmpi .slt v136 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v136 c128_i32
  let c0_i32_112 : BitVec 32 := 0#32
  let v260 : BitVec 1 := Scalar.cmpi .ne v259 c0_i32_112
  let v261 : BitVec 1 := Scalar.andi v258 v260
  let v247 : BitVec 32 := Scalar.divsi v136 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  v264
def k0_cond21 (i : grid0.Coords) (v135 : BitVec 32) : BitVec 1 :=
  let arg1 : BitVec 32 := BitVec.ofNat 32 (i 1).val
  let c71680_i32 : BitVec 32 := 71680#32
  let v19 : BitVec 32 := Scalar.muli arg1 c71680_i32
  let v136 : BitVec 32 := Scalar.subi v135 v19
  let c0_i32_60 : BitVec 32 := 0#32
  let v137 : BitVec 1 := Scalar.cmpi .sge v136 c0_i32_60
  let c71680_i32_61 : BitVec 32 := 71680#32
  let v138 : BitVec 1 := Scalar.cmpi .slt v136 c71680_i32_61
  let v139 : BitVec 1 := Scalar.andi v137 v138
  let v140 : BitVec 32 := Scalar.extui v139
  let c0_i32_62 : BitVec 32 := 0#32
  let v141 : BitVec 1 := Scalar.cmpi .ne v140 c0_i32_62
  v141

def k0_off17 (i : grid0.Coords) (v135 : BitVec 32) : Fin 2 → Nat :=
  let c0_115 : Index := 0#32
  let arg1 : BitVec 32 := BitVec.ofNat 32 (i 1).val
  let c71680_i32 : BitVec 32 := 71680#32
  let v19 : BitVec 32 := Scalar.muli arg1 c71680_i32
  let v136 : BitVec 32 := Scalar.subi v135 v19
  let c0_i32_108 : BitVec 32 := 0#32
  let v248 : BitVec 1 := Scalar.cmpi .sgt v136 c0_i32_108
  let v249 : BitVec 32 := Scalar.extui v248
  let c0_i32_109 : BitVec 32 := 0#32
  let v250 : BitVec 1 := Scalar.cmpi .slt v136 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v136 c128_i32
  let c0_i32_112 : BitVec 32 := 0#32
  let v260 : BitVec 1 := Scalar.cmpi .ne v259 c0_i32_112
  let v261 : BitVec 1 := Scalar.andi v258 v260
  let v247 : BitVec 32 := Scalar.divsi v136 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  let v265 : BitVec 32 := v264
  let v267 : Index := Scalar.indexCast v265
  ![0, v267.toNat]

def k0_chk17 (i : grid0.Coords) (v135 : BitVec 32) : Prop :=
  (∀ (k0_h4 : k0_cond4 i = 1#1), ∀ (k0_h21 : k0_cond21 i v135 = 1#1), 128 ∣ (k0_mult17 i v135).toNat) ∧
  (∀ (k0_h4 : k0_cond4 i = 1#1), ∀ (k0_h21 : k0_cond21 i v135 = 1#1), ∀ a, (k0_off17 i v135) a + S32x128.size a ≤ S32x71680.size a)
theorem k0_mult17_dvd : ∀ (i : grid0.Coords) (v135 : BitVec 32) (k0_hw17 : k0_chk17 i v135), ∀ (k0_h4 : k0_cond4 i = 1#1), ∀ (k0_h21 : k0_cond21 i v135 = 1#1), 128 ∣ (k0_mult17 i v135).toNat := fun i v135 k0_hw17 k0_h4 k0_h21 => k0_hw17.1 k0_h4 k0_h21
theorem k0_off17_inb : ∀ (i : grid0.Coords) (v135 : BitVec 32) (k0_hw17 : k0_chk17 i v135), ∀ (k0_h4 : k0_cond4 i = 1#1), ∀ (k0_h21 : k0_cond21 i v135 = 1#1), ∀ a, (k0_off17 i v135) a + S32x128.size a ≤ S32x71680.size a := fun i v135 k0_hw17 k0_h4 k0_h21 => k0_hw17.2 k0_h4 k0_h21

def k0_mult18 (i : grid0.Coords) (v142 : BitVec 32) : BitVec 32 :=
  let arg1 : BitVec 32 := BitVec.ofNat 32 (i 1).val
  let c71680_i32 : BitVec 32 := 71680#32
  let v19 : BitVec 32 := Scalar.muli arg1 c71680_i32
  let v143 : BitVec 32 := Scalar.subi v142 v19
  let c0_i32_108 : BitVec 32 := 0#32
  let v248 : BitVec 1 := Scalar.cmpi .sgt v143 c0_i32_108
  let v249 : BitVec 32 := Scalar.extui v248
  let c0_i32_109 : BitVec 32 := 0#32
  let v250 : BitVec 1 := Scalar.cmpi .slt v143 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v143 c128_i32
  let c0_i32_112 : BitVec 32 := 0#32
  let v260 : BitVec 1 := Scalar.cmpi .ne v259 c0_i32_112
  let v261 : BitVec 1 := Scalar.andi v258 v260
  let v247 : BitVec 32 := Scalar.divsi v143 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  v264
def k0_cond22 (i : grid0.Coords) (v142 : BitVec 32) : BitVec 1 :=
  let arg1 : BitVec 32 := BitVec.ofNat 32 (i 1).val
  let c71680_i32 : BitVec 32 := 71680#32
  let v19 : BitVec 32 := Scalar.muli arg1 c71680_i32
  let v143 : BitVec 32 := Scalar.subi v142 v19
  let c0_i32_63 : BitVec 32 := 0#32
  let v144 : BitVec 1 := Scalar.cmpi .sge v143 c0_i32_63
  let c71680_i32_64 : BitVec 32 := 71680#32
  let v145 : BitVec 1 := Scalar.cmpi .slt v143 c71680_i32_64
  let v146 : BitVec 1 := Scalar.andi v144 v145
  let v147 : BitVec 32 := Scalar.extui v146
  let c0_i32_65 : BitVec 32 := 0#32
  let v148 : BitVec 1 := Scalar.cmpi .ne v147 c0_i32_65
  v148

def k0_off18 (i : grid0.Coords) (v142 : BitVec 32) : Fin 2 → Nat :=
  let c0_115 : Index := 0#32
  let arg1 : BitVec 32 := BitVec.ofNat 32 (i 1).val
  let c71680_i32 : BitVec 32 := 71680#32
  let v19 : BitVec 32 := Scalar.muli arg1 c71680_i32
  let v143 : BitVec 32 := Scalar.subi v142 v19
  let c0_i32_108 : BitVec 32 := 0#32
  let v248 : BitVec 1 := Scalar.cmpi .sgt v143 c0_i32_108
  let v249 : BitVec 32 := Scalar.extui v248
  let c0_i32_109 : BitVec 32 := 0#32
  let v250 : BitVec 1 := Scalar.cmpi .slt v143 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v143 c128_i32
  let c0_i32_112 : BitVec 32 := 0#32
  let v260 : BitVec 1 := Scalar.cmpi .ne v259 c0_i32_112
  let v261 : BitVec 1 := Scalar.andi v258 v260
  let v247 : BitVec 32 := Scalar.divsi v143 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  let v265 : BitVec 32 := v264
  let v267 : Index := Scalar.indexCast v265
  ![0, v267.toNat]

def k0_chk18 (i : grid0.Coords) (v142 : BitVec 32) : Prop :=
  (∀ (k0_h4 : k0_cond4 i = 1#1), ∀ (k0_h22 : k0_cond22 i v142 = 1#1), 128 ∣ (k0_mult18 i v142).toNat) ∧
  (∀ (k0_h4 : k0_cond4 i = 1#1), ∀ (k0_h22 : k0_cond22 i v142 = 1#1), ∀ a, (k0_off18 i v142) a + S32x128.size a ≤ S32x71680.size a)
theorem k0_mult18_dvd : ∀ (i : grid0.Coords) (v142 : BitVec 32) (k0_hw18 : k0_chk18 i v142), ∀ (k0_h4 : k0_cond4 i = 1#1), ∀ (k0_h22 : k0_cond22 i v142 = 1#1), 128 ∣ (k0_mult18 i v142).toNat := fun i v142 k0_hw18 k0_h4 k0_h22 => k0_hw18.1 k0_h4 k0_h22
theorem k0_off18_inb : ∀ (i : grid0.Coords) (v142 : BitVec 32) (k0_hw18 : k0_chk18 i v142), ∀ (k0_h4 : k0_cond4 i = 1#1), ∀ (k0_h22 : k0_cond22 i v142 = 1#1), ∀ a, (k0_off18 i v142) a + S32x128.size a ≤ S32x71680.size a := fun i v142 k0_hw18 k0_h4 k0_h22 => k0_hw18.2 k0_h4 k0_h22

def k0_mult19 (i : grid0.Coords) (v149 : BitVec 32) : BitVec 32 :=
  let arg1 : BitVec 32 := BitVec.ofNat 32 (i 1).val
  let c71680_i32 : BitVec 32 := 71680#32
  let v19 : BitVec 32 := Scalar.muli arg1 c71680_i32
  let v150 : BitVec 32 := Scalar.subi v149 v19
  let c0_i32_108 : BitVec 32 := 0#32
  let v248 : BitVec 1 := Scalar.cmpi .sgt v150 c0_i32_108
  let v249 : BitVec 32 := Scalar.extui v248
  let c0_i32_109 : BitVec 32 := 0#32
  let v250 : BitVec 1 := Scalar.cmpi .slt v150 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v150 c128_i32
  let c0_i32_112 : BitVec 32 := 0#32
  let v260 : BitVec 1 := Scalar.cmpi .ne v259 c0_i32_112
  let v261 : BitVec 1 := Scalar.andi v258 v260
  let v247 : BitVec 32 := Scalar.divsi v150 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  v264
def k0_cond23 (i : grid0.Coords) (v149 : BitVec 32) : BitVec 1 :=
  let arg1 : BitVec 32 := BitVec.ofNat 32 (i 1).val
  let c71680_i32 : BitVec 32 := 71680#32
  let v19 : BitVec 32 := Scalar.muli arg1 c71680_i32
  let v150 : BitVec 32 := Scalar.subi v149 v19
  let c0_i32_66 : BitVec 32 := 0#32
  let v151 : BitVec 1 := Scalar.cmpi .sge v150 c0_i32_66
  let c71680_i32_67 : BitVec 32 := 71680#32
  let v152 : BitVec 1 := Scalar.cmpi .slt v150 c71680_i32_67
  let v153 : BitVec 1 := Scalar.andi v151 v152
  let v154 : BitVec 32 := Scalar.extui v153
  let c0_i32_68 : BitVec 32 := 0#32
  let v155 : BitVec 1 := Scalar.cmpi .ne v154 c0_i32_68
  v155

def k0_off19 (i : grid0.Coords) (v149 : BitVec 32) : Fin 2 → Nat :=
  let c0_115 : Index := 0#32
  let arg1 : BitVec 32 := BitVec.ofNat 32 (i 1).val
  let c71680_i32 : BitVec 32 := 71680#32
  let v19 : BitVec 32 := Scalar.muli arg1 c71680_i32
  let v150 : BitVec 32 := Scalar.subi v149 v19
  let c0_i32_108 : BitVec 32 := 0#32
  let v248 : BitVec 1 := Scalar.cmpi .sgt v150 c0_i32_108
  let v249 : BitVec 32 := Scalar.extui v248
  let c0_i32_109 : BitVec 32 := 0#32
  let v250 : BitVec 1 := Scalar.cmpi .slt v150 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v150 c128_i32
  let c0_i32_112 : BitVec 32 := 0#32
  let v260 : BitVec 1 := Scalar.cmpi .ne v259 c0_i32_112
  let v261 : BitVec 1 := Scalar.andi v258 v260
  let v247 : BitVec 32 := Scalar.divsi v150 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  let v265 : BitVec 32 := v264
  let v267 : Index := Scalar.indexCast v265
  ![0, v267.toNat]

def k0_chk19 (i : grid0.Coords) (v149 : BitVec 32) : Prop :=
  (∀ (k0_h4 : k0_cond4 i = 1#1), ∀ (k0_h23 : k0_cond23 i v149 = 1#1), 128 ∣ (k0_mult19 i v149).toNat) ∧
  (∀ (k0_h4 : k0_cond4 i = 1#1), ∀ (k0_h23 : k0_cond23 i v149 = 1#1), ∀ a, (k0_off19 i v149) a + S32x128.size a ≤ S32x71680.size a)
theorem k0_mult19_dvd : ∀ (i : grid0.Coords) (v149 : BitVec 32) (k0_hw19 : k0_chk19 i v149), ∀ (k0_h4 : k0_cond4 i = 1#1), ∀ (k0_h23 : k0_cond23 i v149 = 1#1), 128 ∣ (k0_mult19 i v149).toNat := fun i v149 k0_hw19 k0_h4 k0_h23 => k0_hw19.1 k0_h4 k0_h23
theorem k0_off19_inb : ∀ (i : grid0.Coords) (v149 : BitVec 32) (k0_hw19 : k0_chk19 i v149), ∀ (k0_h4 : k0_cond4 i = 1#1), ∀ (k0_h23 : k0_cond23 i v149 = 1#1), ∀ a, (k0_off19 i v149) a + S32x128.size a ≤ S32x71680.size a := fun i v149 k0_hw19 k0_h4 k0_h23 => k0_hw19.2 k0_h4 k0_h23

def k0_mult20 (i : grid0.Coords) (v156 : BitVec 32) : BitVec 32 :=
  let arg1 : BitVec 32 := BitVec.ofNat 32 (i 1).val
  let c71680_i32 : BitVec 32 := 71680#32
  let v19 : BitVec 32 := Scalar.muli arg1 c71680_i32
  let v157 : BitVec 32 := Scalar.subi v156 v19
  let c0_i32_108 : BitVec 32 := 0#32
  let v248 : BitVec 1 := Scalar.cmpi .sgt v157 c0_i32_108
  let v249 : BitVec 32 := Scalar.extui v248
  let c0_i32_109 : BitVec 32 := 0#32
  let v250 : BitVec 1 := Scalar.cmpi .slt v157 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v157 c128_i32
  let c0_i32_112 : BitVec 32 := 0#32
  let v260 : BitVec 1 := Scalar.cmpi .ne v259 c0_i32_112
  let v261 : BitVec 1 := Scalar.andi v258 v260
  let v247 : BitVec 32 := Scalar.divsi v157 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  v264
def k0_cond24 (i : grid0.Coords) (v156 : BitVec 32) : BitVec 1 :=
  let arg1 : BitVec 32 := BitVec.ofNat 32 (i 1).val
  let c71680_i32 : BitVec 32 := 71680#32
  let v19 : BitVec 32 := Scalar.muli arg1 c71680_i32
  let v157 : BitVec 32 := Scalar.subi v156 v19
  let c0_i32_69 : BitVec 32 := 0#32
  let v158 : BitVec 1 := Scalar.cmpi .sge v157 c0_i32_69
  let c71680_i32_70 : BitVec 32 := 71680#32
  let v159 : BitVec 1 := Scalar.cmpi .slt v157 c71680_i32_70
  let v160 : BitVec 1 := Scalar.andi v158 v159
  let v161 : BitVec 32 := Scalar.extui v160
  let c0_i32_71 : BitVec 32 := 0#32
  let v162 : BitVec 1 := Scalar.cmpi .ne v161 c0_i32_71
  v162

def k0_off20 (i : grid0.Coords) (v156 : BitVec 32) : Fin 2 → Nat :=
  let c0_115 : Index := 0#32
  let arg1 : BitVec 32 := BitVec.ofNat 32 (i 1).val
  let c71680_i32 : BitVec 32 := 71680#32
  let v19 : BitVec 32 := Scalar.muli arg1 c71680_i32
  let v157 : BitVec 32 := Scalar.subi v156 v19
  let c0_i32_108 : BitVec 32 := 0#32
  let v248 : BitVec 1 := Scalar.cmpi .sgt v157 c0_i32_108
  let v249 : BitVec 32 := Scalar.extui v248
  let c0_i32_109 : BitVec 32 := 0#32
  let v250 : BitVec 1 := Scalar.cmpi .slt v157 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v157 c128_i32
  let c0_i32_112 : BitVec 32 := 0#32
  let v260 : BitVec 1 := Scalar.cmpi .ne v259 c0_i32_112
  let v261 : BitVec 1 := Scalar.andi v258 v260
  let v247 : BitVec 32 := Scalar.divsi v157 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  let v265 : BitVec 32 := v264
  let v267 : Index := Scalar.indexCast v265
  ![0, v267.toNat]

def k0_chk20 (i : grid0.Coords) (v156 : BitVec 32) : Prop :=
  (∀ (k0_h4 : k0_cond4 i = 1#1), ∀ (k0_h24 : k0_cond24 i v156 = 1#1), 128 ∣ (k0_mult20 i v156).toNat) ∧
  (∀ (k0_h4 : k0_cond4 i = 1#1), ∀ (k0_h24 : k0_cond24 i v156 = 1#1), ∀ a, (k0_off20 i v156) a + S32x128.size a ≤ S32x71680.size a)
theorem k0_mult20_dvd : ∀ (i : grid0.Coords) (v156 : BitVec 32) (k0_hw20 : k0_chk20 i v156), ∀ (k0_h4 : k0_cond4 i = 1#1), ∀ (k0_h24 : k0_cond24 i v156 = 1#1), 128 ∣ (k0_mult20 i v156).toNat := fun i v156 k0_hw20 k0_h4 k0_h24 => k0_hw20.1 k0_h4 k0_h24
theorem k0_off20_inb : ∀ (i : grid0.Coords) (v156 : BitVec 32) (k0_hw20 : k0_chk20 i v156), ∀ (k0_h4 : k0_cond4 i = 1#1), ∀ (k0_h24 : k0_cond24 i v156 = 1#1), ∀ a, (k0_off20 i v156) a + S32x128.size a ≤ S32x71680.size a := fun i v156 k0_hw20 k0_h4 k0_h24 => k0_hw20.2 k0_h4 k0_h24

def k0_mult21 (i : grid0.Coords) (v163 : BitVec 32) : BitVec 32 :=
  let arg1 : BitVec 32 := BitVec.ofNat 32 (i 1).val
  let c71680_i32 : BitVec 32 := 71680#32
  let v19 : BitVec 32 := Scalar.muli arg1 c71680_i32
  let v164 : BitVec 32 := Scalar.subi v163 v19
  let c0_i32_108 : BitVec 32 := 0#32
  let v248 : BitVec 1 := Scalar.cmpi .sgt v164 c0_i32_108
  let v249 : BitVec 32 := Scalar.extui v248
  let c0_i32_109 : BitVec 32 := 0#32
  let v250 : BitVec 1 := Scalar.cmpi .slt v164 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v164 c128_i32
  let c0_i32_112 : BitVec 32 := 0#32
  let v260 : BitVec 1 := Scalar.cmpi .ne v259 c0_i32_112
  let v261 : BitVec 1 := Scalar.andi v258 v260
  let v247 : BitVec 32 := Scalar.divsi v164 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  v264
def k0_cond25 (i : grid0.Coords) (v163 : BitVec 32) : BitVec 1 :=
  let arg1 : BitVec 32 := BitVec.ofNat 32 (i 1).val
  let c71680_i32 : BitVec 32 := 71680#32
  let v19 : BitVec 32 := Scalar.muli arg1 c71680_i32
  let v164 : BitVec 32 := Scalar.subi v163 v19
  let c0_i32_72 : BitVec 32 := 0#32
  let v165 : BitVec 1 := Scalar.cmpi .sge v164 c0_i32_72
  let c71680_i32_73 : BitVec 32 := 71680#32
  let v166 : BitVec 1 := Scalar.cmpi .slt v164 c71680_i32_73
  let v167 : BitVec 1 := Scalar.andi v165 v166
  let v168 : BitVec 32 := Scalar.extui v167
  let c0_i32_74 : BitVec 32 := 0#32
  let v169 : BitVec 1 := Scalar.cmpi .ne v168 c0_i32_74
  v169

def k0_off21 (i : grid0.Coords) (v163 : BitVec 32) : Fin 2 → Nat :=
  let c0_115 : Index := 0#32
  let arg1 : BitVec 32 := BitVec.ofNat 32 (i 1).val
  let c71680_i32 : BitVec 32 := 71680#32
  let v19 : BitVec 32 := Scalar.muli arg1 c71680_i32
  let v164 : BitVec 32 := Scalar.subi v163 v19
  let c0_i32_108 : BitVec 32 := 0#32
  let v248 : BitVec 1 := Scalar.cmpi .sgt v164 c0_i32_108
  let v249 : BitVec 32 := Scalar.extui v248
  let c0_i32_109 : BitVec 32 := 0#32
  let v250 : BitVec 1 := Scalar.cmpi .slt v164 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v164 c128_i32
  let c0_i32_112 : BitVec 32 := 0#32
  let v260 : BitVec 1 := Scalar.cmpi .ne v259 c0_i32_112
  let v261 : BitVec 1 := Scalar.andi v258 v260
  let v247 : BitVec 32 := Scalar.divsi v164 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  let v265 : BitVec 32 := v264
  let v267 : Index := Scalar.indexCast v265
  ![0, v267.toNat]

def k0_chk21 (i : grid0.Coords) (v163 : BitVec 32) : Prop :=
  (∀ (k0_h4 : k0_cond4 i = 1#1), ∀ (k0_h25 : k0_cond25 i v163 = 1#1), 128 ∣ (k0_mult21 i v163).toNat) ∧
  (∀ (k0_h4 : k0_cond4 i = 1#1), ∀ (k0_h25 : k0_cond25 i v163 = 1#1), ∀ a, (k0_off21 i v163) a + S32x128.size a ≤ S32x71680.size a)
theorem k0_mult21_dvd : ∀ (i : grid0.Coords) (v163 : BitVec 32) (k0_hw21 : k0_chk21 i v163), ∀ (k0_h4 : k0_cond4 i = 1#1), ∀ (k0_h25 : k0_cond25 i v163 = 1#1), 128 ∣ (k0_mult21 i v163).toNat := fun i v163 k0_hw21 k0_h4 k0_h25 => k0_hw21.1 k0_h4 k0_h25
theorem k0_off21_inb : ∀ (i : grid0.Coords) (v163 : BitVec 32) (k0_hw21 : k0_chk21 i v163), ∀ (k0_h4 : k0_cond4 i = 1#1), ∀ (k0_h25 : k0_cond25 i v163 = 1#1), ∀ a, (k0_off21 i v163) a + S32x128.size a ≤ S32x71680.size a := fun i v163 k0_hw21 k0_h4 k0_h25 => k0_hw21.2 k0_h4 k0_h25

def k0_mult22 (i : grid0.Coords) (v170 : BitVec 32) : BitVec 32 :=
  let arg1 : BitVec 32 := BitVec.ofNat 32 (i 1).val
  let c71680_i32 : BitVec 32 := 71680#32
  let v19 : BitVec 32 := Scalar.muli arg1 c71680_i32
  let v171 : BitVec 32 := Scalar.subi v170 v19
  let c0_i32_108 : BitVec 32 := 0#32
  let v248 : BitVec 1 := Scalar.cmpi .sgt v171 c0_i32_108
  let v249 : BitVec 32 := Scalar.extui v248
  let c0_i32_109 : BitVec 32 := 0#32
  let v250 : BitVec 1 := Scalar.cmpi .slt v171 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v171 c128_i32
  let c0_i32_112 : BitVec 32 := 0#32
  let v260 : BitVec 1 := Scalar.cmpi .ne v259 c0_i32_112
  let v261 : BitVec 1 := Scalar.andi v258 v260
  let v247 : BitVec 32 := Scalar.divsi v171 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  v264
def k0_cond26 (i : grid0.Coords) (v170 : BitVec 32) : BitVec 1 :=
  let arg1 : BitVec 32 := BitVec.ofNat 32 (i 1).val
  let c71680_i32 : BitVec 32 := 71680#32
  let v19 : BitVec 32 := Scalar.muli arg1 c71680_i32
  let v171 : BitVec 32 := Scalar.subi v170 v19
  let c0_i32_75 : BitVec 32 := 0#32
  let v172 : BitVec 1 := Scalar.cmpi .sge v171 c0_i32_75
  let c71680_i32_76 : BitVec 32 := 71680#32
  let v173 : BitVec 1 := Scalar.cmpi .slt v171 c71680_i32_76
  let v174 : BitVec 1 := Scalar.andi v172 v173
  let v175 : BitVec 32 := Scalar.extui v174
  let c0_i32_77 : BitVec 32 := 0#32
  let v176 : BitVec 1 := Scalar.cmpi .ne v175 c0_i32_77
  v176

def k0_off22 (i : grid0.Coords) (v170 : BitVec 32) : Fin 2 → Nat :=
  let c0_115 : Index := 0#32
  let arg1 : BitVec 32 := BitVec.ofNat 32 (i 1).val
  let c71680_i32 : BitVec 32 := 71680#32
  let v19 : BitVec 32 := Scalar.muli arg1 c71680_i32
  let v171 : BitVec 32 := Scalar.subi v170 v19
  let c0_i32_108 : BitVec 32 := 0#32
  let v248 : BitVec 1 := Scalar.cmpi .sgt v171 c0_i32_108
  let v249 : BitVec 32 := Scalar.extui v248
  let c0_i32_109 : BitVec 32 := 0#32
  let v250 : BitVec 1 := Scalar.cmpi .slt v171 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v171 c128_i32
  let c0_i32_112 : BitVec 32 := 0#32
  let v260 : BitVec 1 := Scalar.cmpi .ne v259 c0_i32_112
  let v261 : BitVec 1 := Scalar.andi v258 v260
  let v247 : BitVec 32 := Scalar.divsi v171 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  let v265 : BitVec 32 := v264
  let v267 : Index := Scalar.indexCast v265
  ![0, v267.toNat]

def k0_chk22 (i : grid0.Coords) (v170 : BitVec 32) : Prop :=
  (∀ (k0_h4 : k0_cond4 i = 1#1), ∀ (k0_h26 : k0_cond26 i v170 = 1#1), 128 ∣ (k0_mult22 i v170).toNat) ∧
  (∀ (k0_h4 : k0_cond4 i = 1#1), ∀ (k0_h26 : k0_cond26 i v170 = 1#1), ∀ a, (k0_off22 i v170) a + S32x128.size a ≤ S32x71680.size a)
theorem k0_mult22_dvd : ∀ (i : grid0.Coords) (v170 : BitVec 32) (k0_hw22 : k0_chk22 i v170), ∀ (k0_h4 : k0_cond4 i = 1#1), ∀ (k0_h26 : k0_cond26 i v170 = 1#1), 128 ∣ (k0_mult22 i v170).toNat := fun i v170 k0_hw22 k0_h4 k0_h26 => k0_hw22.1 k0_h4 k0_h26
theorem k0_off22_inb : ∀ (i : grid0.Coords) (v170 : BitVec 32) (k0_hw22 : k0_chk22 i v170), ∀ (k0_h4 : k0_cond4 i = 1#1), ∀ (k0_h26 : k0_cond26 i v170 = 1#1), ∀ a, (k0_off22 i v170) a + S32x128.size a ≤ S32x71680.size a := fun i v170 k0_hw22 k0_h4 k0_h26 => k0_hw22.2 k0_h4 k0_h26

def k0_mult23 (i : grid0.Coords) (v177 : BitVec 32) : BitVec 32 :=
  let arg1 : BitVec 32 := BitVec.ofNat 32 (i 1).val
  let c71680_i32 : BitVec 32 := 71680#32
  let v19 : BitVec 32 := Scalar.muli arg1 c71680_i32
  let v178 : BitVec 32 := Scalar.subi v177 v19
  let c0_i32_108 : BitVec 32 := 0#32
  let v248 : BitVec 1 := Scalar.cmpi .sgt v178 c0_i32_108
  let v249 : BitVec 32 := Scalar.extui v248
  let c0_i32_109 : BitVec 32 := 0#32
  let v250 : BitVec 1 := Scalar.cmpi .slt v178 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v178 c128_i32
  let c0_i32_112 : BitVec 32 := 0#32
  let v260 : BitVec 1 := Scalar.cmpi .ne v259 c0_i32_112
  let v261 : BitVec 1 := Scalar.andi v258 v260
  let v247 : BitVec 32 := Scalar.divsi v178 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  v264
def k0_cond27 (i : grid0.Coords) (v177 : BitVec 32) : BitVec 1 :=
  let arg1 : BitVec 32 := BitVec.ofNat 32 (i 1).val
  let c71680_i32 : BitVec 32 := 71680#32
  let v19 : BitVec 32 := Scalar.muli arg1 c71680_i32
  let v178 : BitVec 32 := Scalar.subi v177 v19
  let c0_i32_78 : BitVec 32 := 0#32
  let v179 : BitVec 1 := Scalar.cmpi .sge v178 c0_i32_78
  let c71680_i32_79 : BitVec 32 := 71680#32
  let v180 : BitVec 1 := Scalar.cmpi .slt v178 c71680_i32_79
  let v181 : BitVec 1 := Scalar.andi v179 v180
  let v182 : BitVec 32 := Scalar.extui v181
  let c0_i32_80 : BitVec 32 := 0#32
  let v183 : BitVec 1 := Scalar.cmpi .ne v182 c0_i32_80
  v183

def k0_off23 (i : grid0.Coords) (v177 : BitVec 32) : Fin 2 → Nat :=
  let c0_115 : Index := 0#32
  let arg1 : BitVec 32 := BitVec.ofNat 32 (i 1).val
  let c71680_i32 : BitVec 32 := 71680#32
  let v19 : BitVec 32 := Scalar.muli arg1 c71680_i32
  let v178 : BitVec 32 := Scalar.subi v177 v19
  let c0_i32_108 : BitVec 32 := 0#32
  let v248 : BitVec 1 := Scalar.cmpi .sgt v178 c0_i32_108
  let v249 : BitVec 32 := Scalar.extui v248
  let c0_i32_109 : BitVec 32 := 0#32
  let v250 : BitVec 1 := Scalar.cmpi .slt v178 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v178 c128_i32
  let c0_i32_112 : BitVec 32 := 0#32
  let v260 : BitVec 1 := Scalar.cmpi .ne v259 c0_i32_112
  let v261 : BitVec 1 := Scalar.andi v258 v260
  let v247 : BitVec 32 := Scalar.divsi v178 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  let v265 : BitVec 32 := v264
  let v267 : Index := Scalar.indexCast v265
  ![0, v267.toNat]

def k0_chk23 (i : grid0.Coords) (v177 : BitVec 32) : Prop :=
  (∀ (k0_h4 : k0_cond4 i = 1#1), ∀ (k0_h27 : k0_cond27 i v177 = 1#1), 128 ∣ (k0_mult23 i v177).toNat) ∧
  (∀ (k0_h4 : k0_cond4 i = 1#1), ∀ (k0_h27 : k0_cond27 i v177 = 1#1), ∀ a, (k0_off23 i v177) a + S32x128.size a ≤ S32x71680.size a)
theorem k0_mult23_dvd : ∀ (i : grid0.Coords) (v177 : BitVec 32) (k0_hw23 : k0_chk23 i v177), ∀ (k0_h4 : k0_cond4 i = 1#1), ∀ (k0_h27 : k0_cond27 i v177 = 1#1), 128 ∣ (k0_mult23 i v177).toNat := fun i v177 k0_hw23 k0_h4 k0_h27 => k0_hw23.1 k0_h4 k0_h27
theorem k0_off23_inb : ∀ (i : grid0.Coords) (v177 : BitVec 32) (k0_hw23 : k0_chk23 i v177), ∀ (k0_h4 : k0_cond4 i = 1#1), ∀ (k0_h27 : k0_cond27 i v177 = 1#1), ∀ a, (k0_off23 i v177) a + S32x128.size a ≤ S32x71680.size a := fun i v177 k0_hw23 k0_h4 k0_h27 => k0_hw23.2 k0_h4 k0_h27

def k0_mult24 (i : grid0.Coords) (v184 : BitVec 32) : BitVec 32 :=
  let arg1 : BitVec 32 := BitVec.ofNat 32 (i 1).val
  let c71680_i32 : BitVec 32 := 71680#32
  let v19 : BitVec 32 := Scalar.muli arg1 c71680_i32
  let v185 : BitVec 32 := Scalar.subi v184 v19
  let c0_i32_108 : BitVec 32 := 0#32
  let v248 : BitVec 1 := Scalar.cmpi .sgt v185 c0_i32_108
  let v249 : BitVec 32 := Scalar.extui v248
  let c0_i32_109 : BitVec 32 := 0#32
  let v250 : BitVec 1 := Scalar.cmpi .slt v185 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v185 c128_i32
  let c0_i32_112 : BitVec 32 := 0#32
  let v260 : BitVec 1 := Scalar.cmpi .ne v259 c0_i32_112
  let v261 : BitVec 1 := Scalar.andi v258 v260
  let v247 : BitVec 32 := Scalar.divsi v185 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  v264
def k0_cond28 (i : grid0.Coords) (v184 : BitVec 32) : BitVec 1 :=
  let arg1 : BitVec 32 := BitVec.ofNat 32 (i 1).val
  let c71680_i32 : BitVec 32 := 71680#32
  let v19 : BitVec 32 := Scalar.muli arg1 c71680_i32
  let v185 : BitVec 32 := Scalar.subi v184 v19
  let c0_i32_81 : BitVec 32 := 0#32
  let v186 : BitVec 1 := Scalar.cmpi .sge v185 c0_i32_81
  let c71680_i32_82 : BitVec 32 := 71680#32
  let v187 : BitVec 1 := Scalar.cmpi .slt v185 c71680_i32_82
  let v188 : BitVec 1 := Scalar.andi v186 v187
  let v189 : BitVec 32 := Scalar.extui v188
  let c0_i32_83 : BitVec 32 := 0#32
  let v190 : BitVec 1 := Scalar.cmpi .ne v189 c0_i32_83
  v190

def k0_off24 (i : grid0.Coords) (v184 : BitVec 32) : Fin 2 → Nat :=
  let c0_115 : Index := 0#32
  let arg1 : BitVec 32 := BitVec.ofNat 32 (i 1).val
  let c71680_i32 : BitVec 32 := 71680#32
  let v19 : BitVec 32 := Scalar.muli arg1 c71680_i32
  let v185 : BitVec 32 := Scalar.subi v184 v19
  let c0_i32_108 : BitVec 32 := 0#32
  let v248 : BitVec 1 := Scalar.cmpi .sgt v185 c0_i32_108
  let v249 : BitVec 32 := Scalar.extui v248
  let c0_i32_109 : BitVec 32 := 0#32
  let v250 : BitVec 1 := Scalar.cmpi .slt v185 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v185 c128_i32
  let c0_i32_112 : BitVec 32 := 0#32
  let v260 : BitVec 1 := Scalar.cmpi .ne v259 c0_i32_112
  let v261 : BitVec 1 := Scalar.andi v258 v260
  let v247 : BitVec 32 := Scalar.divsi v185 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  let v265 : BitVec 32 := v264
  let v267 : Index := Scalar.indexCast v265
  ![0, v267.toNat]

def k0_chk24 (i : grid0.Coords) (v184 : BitVec 32) : Prop :=
  (∀ (k0_h4 : k0_cond4 i = 1#1), ∀ (k0_h28 : k0_cond28 i v184 = 1#1), 128 ∣ (k0_mult24 i v184).toNat) ∧
  (∀ (k0_h4 : k0_cond4 i = 1#1), ∀ (k0_h28 : k0_cond28 i v184 = 1#1), ∀ a, (k0_off24 i v184) a + S32x128.size a ≤ S32x71680.size a)
theorem k0_mult24_dvd : ∀ (i : grid0.Coords) (v184 : BitVec 32) (k0_hw24 : k0_chk24 i v184), ∀ (k0_h4 : k0_cond4 i = 1#1), ∀ (k0_h28 : k0_cond28 i v184 = 1#1), 128 ∣ (k0_mult24 i v184).toNat := fun i v184 k0_hw24 k0_h4 k0_h28 => k0_hw24.1 k0_h4 k0_h28
theorem k0_off24_inb : ∀ (i : grid0.Coords) (v184 : BitVec 32) (k0_hw24 : k0_chk24 i v184), ∀ (k0_h4 : k0_cond4 i = 1#1), ∀ (k0_h28 : k0_cond28 i v184 = 1#1), ∀ a, (k0_off24 i v184) a + S32x128.size a ≤ S32x71680.size a := fun i v184 k0_hw24 k0_h4 k0_h28 => k0_hw24.2 k0_h4 k0_h28

def k0_mult25 (i : grid0.Coords) (v191 : BitVec 32) : BitVec 32 :=
  let arg1 : BitVec 32 := BitVec.ofNat 32 (i 1).val
  let c71680_i32 : BitVec 32 := 71680#32
  let v19 : BitVec 32 := Scalar.muli arg1 c71680_i32
  let v192 : BitVec 32 := Scalar.subi v191 v19
  let c0_i32_108 : BitVec 32 := 0#32
  let v248 : BitVec 1 := Scalar.cmpi .sgt v192 c0_i32_108
  let v249 : BitVec 32 := Scalar.extui v248
  let c0_i32_109 : BitVec 32 := 0#32
  let v250 : BitVec 1 := Scalar.cmpi .slt v192 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v192 c128_i32
  let c0_i32_112 : BitVec 32 := 0#32
  let v260 : BitVec 1 := Scalar.cmpi .ne v259 c0_i32_112
  let v261 : BitVec 1 := Scalar.andi v258 v260
  let v247 : BitVec 32 := Scalar.divsi v192 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  v264
def k0_cond29 (i : grid0.Coords) (v191 : BitVec 32) : BitVec 1 :=
  let arg1 : BitVec 32 := BitVec.ofNat 32 (i 1).val
  let c71680_i32 : BitVec 32 := 71680#32
  let v19 : BitVec 32 := Scalar.muli arg1 c71680_i32
  let v192 : BitVec 32 := Scalar.subi v191 v19
  let c0_i32_84 : BitVec 32 := 0#32
  let v193 : BitVec 1 := Scalar.cmpi .sge v192 c0_i32_84
  let c71680_i32_85 : BitVec 32 := 71680#32
  let v194 : BitVec 1 := Scalar.cmpi .slt v192 c71680_i32_85
  let v195 : BitVec 1 := Scalar.andi v193 v194
  let v196 : BitVec 32 := Scalar.extui v195
  let c0_i32_86 : BitVec 32 := 0#32
  let v197 : BitVec 1 := Scalar.cmpi .ne v196 c0_i32_86
  v197

def k0_off25 (i : grid0.Coords) (v191 : BitVec 32) : Fin 2 → Nat :=
  let c0_115 : Index := 0#32
  let arg1 : BitVec 32 := BitVec.ofNat 32 (i 1).val
  let c71680_i32 : BitVec 32 := 71680#32
  let v19 : BitVec 32 := Scalar.muli arg1 c71680_i32
  let v192 : BitVec 32 := Scalar.subi v191 v19
  let c0_i32_108 : BitVec 32 := 0#32
  let v248 : BitVec 1 := Scalar.cmpi .sgt v192 c0_i32_108
  let v249 : BitVec 32 := Scalar.extui v248
  let c0_i32_109 : BitVec 32 := 0#32
  let v250 : BitVec 1 := Scalar.cmpi .slt v192 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v192 c128_i32
  let c0_i32_112 : BitVec 32 := 0#32
  let v260 : BitVec 1 := Scalar.cmpi .ne v259 c0_i32_112
  let v261 : BitVec 1 := Scalar.andi v258 v260
  let v247 : BitVec 32 := Scalar.divsi v192 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  let v265 : BitVec 32 := v264
  let v267 : Index := Scalar.indexCast v265
  ![0, v267.toNat]

def k0_chk25 (i : grid0.Coords) (v191 : BitVec 32) : Prop :=
  (∀ (k0_h4 : k0_cond4 i = 1#1), ∀ (k0_h29 : k0_cond29 i v191 = 1#1), 128 ∣ (k0_mult25 i v191).toNat) ∧
  (∀ (k0_h4 : k0_cond4 i = 1#1), ∀ (k0_h29 : k0_cond29 i v191 = 1#1), ∀ a, (k0_off25 i v191) a + S32x128.size a ≤ S32x71680.size a)
theorem k0_mult25_dvd : ∀ (i : grid0.Coords) (v191 : BitVec 32) (k0_hw25 : k0_chk25 i v191), ∀ (k0_h4 : k0_cond4 i = 1#1), ∀ (k0_h29 : k0_cond29 i v191 = 1#1), 128 ∣ (k0_mult25 i v191).toNat := fun i v191 k0_hw25 k0_h4 k0_h29 => k0_hw25.1 k0_h4 k0_h29
theorem k0_off25_inb : ∀ (i : grid0.Coords) (v191 : BitVec 32) (k0_hw25 : k0_chk25 i v191), ∀ (k0_h4 : k0_cond4 i = 1#1), ∀ (k0_h29 : k0_cond29 i v191 = 1#1), ∀ a, (k0_off25 i v191) a + S32x128.size a ≤ S32x71680.size a := fun i v191 k0_hw25 k0_h4 k0_h29 => k0_hw25.2 k0_h4 k0_h29

def k0_mult26 (i : grid0.Coords) (v198 : BitVec 32) : BitVec 32 :=
  let arg1 : BitVec 32 := BitVec.ofNat 32 (i 1).val
  let c71680_i32 : BitVec 32 := 71680#32
  let v19 : BitVec 32 := Scalar.muli arg1 c71680_i32
  let v199 : BitVec 32 := Scalar.subi v198 v19
  let c0_i32_108 : BitVec 32 := 0#32
  let v248 : BitVec 1 := Scalar.cmpi .sgt v199 c0_i32_108
  let v249 : BitVec 32 := Scalar.extui v248
  let c0_i32_109 : BitVec 32 := 0#32
  let v250 : BitVec 1 := Scalar.cmpi .slt v199 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v199 c128_i32
  let c0_i32_112 : BitVec 32 := 0#32
  let v260 : BitVec 1 := Scalar.cmpi .ne v259 c0_i32_112
  let v261 : BitVec 1 := Scalar.andi v258 v260
  let v247 : BitVec 32 := Scalar.divsi v199 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  v264
def k0_cond30 (i : grid0.Coords) (v198 : BitVec 32) : BitVec 1 :=
  let arg1 : BitVec 32 := BitVec.ofNat 32 (i 1).val
  let c71680_i32 : BitVec 32 := 71680#32
  let v19 : BitVec 32 := Scalar.muli arg1 c71680_i32
  let v199 : BitVec 32 := Scalar.subi v198 v19
  let c0_i32_87 : BitVec 32 := 0#32
  let v200 : BitVec 1 := Scalar.cmpi .sge v199 c0_i32_87
  let c71680_i32_88 : BitVec 32 := 71680#32
  let v201 : BitVec 1 := Scalar.cmpi .slt v199 c71680_i32_88
  let v202 : BitVec 1 := Scalar.andi v200 v201
  let v203 : BitVec 32 := Scalar.extui v202
  let c0_i32_89 : BitVec 32 := 0#32
  let v204 : BitVec 1 := Scalar.cmpi .ne v203 c0_i32_89
  v204

def k0_off26 (i : grid0.Coords) (v198 : BitVec 32) : Fin 2 → Nat :=
  let c0_115 : Index := 0#32
  let arg1 : BitVec 32 := BitVec.ofNat 32 (i 1).val
  let c71680_i32 : BitVec 32 := 71680#32
  let v19 : BitVec 32 := Scalar.muli arg1 c71680_i32
  let v199 : BitVec 32 := Scalar.subi v198 v19
  let c0_i32_108 : BitVec 32 := 0#32
  let v248 : BitVec 1 := Scalar.cmpi .sgt v199 c0_i32_108
  let v249 : BitVec 32 := Scalar.extui v248
  let c0_i32_109 : BitVec 32 := 0#32
  let v250 : BitVec 1 := Scalar.cmpi .slt v199 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v199 c128_i32
  let c0_i32_112 : BitVec 32 := 0#32
  let v260 : BitVec 1 := Scalar.cmpi .ne v259 c0_i32_112
  let v261 : BitVec 1 := Scalar.andi v258 v260
  let v247 : BitVec 32 := Scalar.divsi v199 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  let v265 : BitVec 32 := v264
  let v267 : Index := Scalar.indexCast v265
  ![0, v267.toNat]

def k0_chk26 (i : grid0.Coords) (v198 : BitVec 32) : Prop :=
  (∀ (k0_h4 : k0_cond4 i = 1#1), ∀ (k0_h30 : k0_cond30 i v198 = 1#1), 128 ∣ (k0_mult26 i v198).toNat) ∧
  (∀ (k0_h4 : k0_cond4 i = 1#1), ∀ (k0_h30 : k0_cond30 i v198 = 1#1), ∀ a, (k0_off26 i v198) a + S32x128.size a ≤ S32x71680.size a)
theorem k0_mult26_dvd : ∀ (i : grid0.Coords) (v198 : BitVec 32) (k0_hw26 : k0_chk26 i v198), ∀ (k0_h4 : k0_cond4 i = 1#1), ∀ (k0_h30 : k0_cond30 i v198 = 1#1), 128 ∣ (k0_mult26 i v198).toNat := fun i v198 k0_hw26 k0_h4 k0_h30 => k0_hw26.1 k0_h4 k0_h30
theorem k0_off26_inb : ∀ (i : grid0.Coords) (v198 : BitVec 32) (k0_hw26 : k0_chk26 i v198), ∀ (k0_h4 : k0_cond4 i = 1#1), ∀ (k0_h30 : k0_cond30 i v198 = 1#1), ∀ a, (k0_off26 i v198) a + S32x128.size a ≤ S32x71680.size a := fun i v198 k0_hw26 k0_h4 k0_h30 => k0_hw26.2 k0_h4 k0_h30

def k0_mult27 (i : grid0.Coords) (v205 : BitVec 32) : BitVec 32 :=
  let arg1 : BitVec 32 := BitVec.ofNat 32 (i 1).val
  let c71680_i32 : BitVec 32 := 71680#32
  let v19 : BitVec 32 := Scalar.muli arg1 c71680_i32
  let v206 : BitVec 32 := Scalar.subi v205 v19
  let c0_i32_108 : BitVec 32 := 0#32
  let v248 : BitVec 1 := Scalar.cmpi .sgt v206 c0_i32_108
  let v249 : BitVec 32 := Scalar.extui v248
  let c0_i32_109 : BitVec 32 := 0#32
  let v250 : BitVec 1 := Scalar.cmpi .slt v206 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v206 c128_i32
  let c0_i32_112 : BitVec 32 := 0#32
  let v260 : BitVec 1 := Scalar.cmpi .ne v259 c0_i32_112
  let v261 : BitVec 1 := Scalar.andi v258 v260
  let v247 : BitVec 32 := Scalar.divsi v206 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  v264
def k0_cond31 (i : grid0.Coords) (v205 : BitVec 32) : BitVec 1 :=
  let arg1 : BitVec 32 := BitVec.ofNat 32 (i 1).val
  let c71680_i32 : BitVec 32 := 71680#32
  let v19 : BitVec 32 := Scalar.muli arg1 c71680_i32
  let v206 : BitVec 32 := Scalar.subi v205 v19
  let c0_i32_90 : BitVec 32 := 0#32
  let v207 : BitVec 1 := Scalar.cmpi .sge v206 c0_i32_90
  let c71680_i32_91 : BitVec 32 := 71680#32
  let v208 : BitVec 1 := Scalar.cmpi .slt v206 c71680_i32_91
  let v209 : BitVec 1 := Scalar.andi v207 v208
  let v210 : BitVec 32 := Scalar.extui v209
  let c0_i32_92 : BitVec 32 := 0#32
  let v211 : BitVec 1 := Scalar.cmpi .ne v210 c0_i32_92
  v211

def k0_off27 (i : grid0.Coords) (v205 : BitVec 32) : Fin 2 → Nat :=
  let c0_115 : Index := 0#32
  let arg1 : BitVec 32 := BitVec.ofNat 32 (i 1).val
  let c71680_i32 : BitVec 32 := 71680#32
  let v19 : BitVec 32 := Scalar.muli arg1 c71680_i32
  let v206 : BitVec 32 := Scalar.subi v205 v19
  let c0_i32_108 : BitVec 32 := 0#32
  let v248 : BitVec 1 := Scalar.cmpi .sgt v206 c0_i32_108
  let v249 : BitVec 32 := Scalar.extui v248
  let c0_i32_109 : BitVec 32 := 0#32
  let v250 : BitVec 1 := Scalar.cmpi .slt v206 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v206 c128_i32
  let c0_i32_112 : BitVec 32 := 0#32
  let v260 : BitVec 1 := Scalar.cmpi .ne v259 c0_i32_112
  let v261 : BitVec 1 := Scalar.andi v258 v260
  let v247 : BitVec 32 := Scalar.divsi v206 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  let v265 : BitVec 32 := v264
  let v267 : Index := Scalar.indexCast v265
  ![0, v267.toNat]

def k0_chk27 (i : grid0.Coords) (v205 : BitVec 32) : Prop :=
  (∀ (k0_h4 : k0_cond4 i = 1#1), ∀ (k0_h31 : k0_cond31 i v205 = 1#1), 128 ∣ (k0_mult27 i v205).toNat) ∧
  (∀ (k0_h4 : k0_cond4 i = 1#1), ∀ (k0_h31 : k0_cond31 i v205 = 1#1), ∀ a, (k0_off27 i v205) a + S32x128.size a ≤ S32x71680.size a)
theorem k0_mult27_dvd : ∀ (i : grid0.Coords) (v205 : BitVec 32) (k0_hw27 : k0_chk27 i v205), ∀ (k0_h4 : k0_cond4 i = 1#1), ∀ (k0_h31 : k0_cond31 i v205 = 1#1), 128 ∣ (k0_mult27 i v205).toNat := fun i v205 k0_hw27 k0_h4 k0_h31 => k0_hw27.1 k0_h4 k0_h31
theorem k0_off27_inb : ∀ (i : grid0.Coords) (v205 : BitVec 32) (k0_hw27 : k0_chk27 i v205), ∀ (k0_h4 : k0_cond4 i = 1#1), ∀ (k0_h31 : k0_cond31 i v205 = 1#1), ∀ a, (k0_off27 i v205) a + S32x128.size a ≤ S32x71680.size a := fun i v205 k0_hw27 k0_h4 k0_h31 => k0_hw27.2 k0_h4 k0_h31

def k0_mult28 (i : grid0.Coords) (v212 : BitVec 32) : BitVec 32 :=
  let arg1 : BitVec 32 := BitVec.ofNat 32 (i 1).val
  let c71680_i32 : BitVec 32 := 71680#32
  let v19 : BitVec 32 := Scalar.muli arg1 c71680_i32
  let v213 : BitVec 32 := Scalar.subi v212 v19
  let c0_i32_108 : BitVec 32 := 0#32
  let v248 : BitVec 1 := Scalar.cmpi .sgt v213 c0_i32_108
  let v249 : BitVec 32 := Scalar.extui v248
  let c0_i32_109 : BitVec 32 := 0#32
  let v250 : BitVec 1 := Scalar.cmpi .slt v213 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v213 c128_i32
  let c0_i32_112 : BitVec 32 := 0#32
  let v260 : BitVec 1 := Scalar.cmpi .ne v259 c0_i32_112
  let v261 : BitVec 1 := Scalar.andi v258 v260
  let v247 : BitVec 32 := Scalar.divsi v213 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  v264
def k0_cond32 (i : grid0.Coords) (v212 : BitVec 32) : BitVec 1 :=
  let arg1 : BitVec 32 := BitVec.ofNat 32 (i 1).val
  let c71680_i32 : BitVec 32 := 71680#32
  let v19 : BitVec 32 := Scalar.muli arg1 c71680_i32
  let v213 : BitVec 32 := Scalar.subi v212 v19
  let c0_i32_93 : BitVec 32 := 0#32
  let v214 : BitVec 1 := Scalar.cmpi .sge v213 c0_i32_93
  let c71680_i32_94 : BitVec 32 := 71680#32
  let v215 : BitVec 1 := Scalar.cmpi .slt v213 c71680_i32_94
  let v216 : BitVec 1 := Scalar.andi v214 v215
  let v217 : BitVec 32 := Scalar.extui v216
  let c0_i32_95 : BitVec 32 := 0#32
  let v218 : BitVec 1 := Scalar.cmpi .ne v217 c0_i32_95
  v218

def k0_off28 (i : grid0.Coords) (v212 : BitVec 32) : Fin 2 → Nat :=
  let c0_115 : Index := 0#32
  let arg1 : BitVec 32 := BitVec.ofNat 32 (i 1).val
  let c71680_i32 : BitVec 32 := 71680#32
  let v19 : BitVec 32 := Scalar.muli arg1 c71680_i32
  let v213 : BitVec 32 := Scalar.subi v212 v19
  let c0_i32_108 : BitVec 32 := 0#32
  let v248 : BitVec 1 := Scalar.cmpi .sgt v213 c0_i32_108
  let v249 : BitVec 32 := Scalar.extui v248
  let c0_i32_109 : BitVec 32 := 0#32
  let v250 : BitVec 1 := Scalar.cmpi .slt v213 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v213 c128_i32
  let c0_i32_112 : BitVec 32 := 0#32
  let v260 : BitVec 1 := Scalar.cmpi .ne v259 c0_i32_112
  let v261 : BitVec 1 := Scalar.andi v258 v260
  let v247 : BitVec 32 := Scalar.divsi v213 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  let v265 : BitVec 32 := v264
  let v267 : Index := Scalar.indexCast v265
  ![0, v267.toNat]

def k0_chk28 (i : grid0.Coords) (v212 : BitVec 32) : Prop :=
  (∀ (k0_h4 : k0_cond4 i = 1#1), ∀ (k0_h32 : k0_cond32 i v212 = 1#1), 128 ∣ (k0_mult28 i v212).toNat) ∧
  (∀ (k0_h4 : k0_cond4 i = 1#1), ∀ (k0_h32 : k0_cond32 i v212 = 1#1), ∀ a, (k0_off28 i v212) a + S32x128.size a ≤ S32x71680.size a)
theorem k0_mult28_dvd : ∀ (i : grid0.Coords) (v212 : BitVec 32) (k0_hw28 : k0_chk28 i v212), ∀ (k0_h4 : k0_cond4 i = 1#1), ∀ (k0_h32 : k0_cond32 i v212 = 1#1), 128 ∣ (k0_mult28 i v212).toNat := fun i v212 k0_hw28 k0_h4 k0_h32 => k0_hw28.1 k0_h4 k0_h32
theorem k0_off28_inb : ∀ (i : grid0.Coords) (v212 : BitVec 32) (k0_hw28 : k0_chk28 i v212), ∀ (k0_h4 : k0_cond4 i = 1#1), ∀ (k0_h32 : k0_cond32 i v212 = 1#1), ∀ a, (k0_off28 i v212) a + S32x128.size a ≤ S32x71680.size a := fun i v212 k0_hw28 k0_h4 k0_h32 => k0_hw28.2 k0_h4 k0_h32

def k0_mult29 (i : grid0.Coords) (v219 : BitVec 32) : BitVec 32 :=
  let arg1 : BitVec 32 := BitVec.ofNat 32 (i 1).val
  let c71680_i32 : BitVec 32 := 71680#32
  let v19 : BitVec 32 := Scalar.muli arg1 c71680_i32
  let v220 : BitVec 32 := Scalar.subi v219 v19
  let c0_i32_108 : BitVec 32 := 0#32
  let v248 : BitVec 1 := Scalar.cmpi .sgt v220 c0_i32_108
  let v249 : BitVec 32 := Scalar.extui v248
  let c0_i32_109 : BitVec 32 := 0#32
  let v250 : BitVec 1 := Scalar.cmpi .slt v220 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v220 c128_i32
  let c0_i32_112 : BitVec 32 := 0#32
  let v260 : BitVec 1 := Scalar.cmpi .ne v259 c0_i32_112
  let v261 : BitVec 1 := Scalar.andi v258 v260
  let v247 : BitVec 32 := Scalar.divsi v220 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  v264
def k0_cond33 (i : grid0.Coords) (v219 : BitVec 32) : BitVec 1 :=
  let arg1 : BitVec 32 := BitVec.ofNat 32 (i 1).val
  let c71680_i32 : BitVec 32 := 71680#32
  let v19 : BitVec 32 := Scalar.muli arg1 c71680_i32
  let v220 : BitVec 32 := Scalar.subi v219 v19
  let c0_i32_96 : BitVec 32 := 0#32
  let v221 : BitVec 1 := Scalar.cmpi .sge v220 c0_i32_96
  let c71680_i32_97 : BitVec 32 := 71680#32
  let v222 : BitVec 1 := Scalar.cmpi .slt v220 c71680_i32_97
  let v223 : BitVec 1 := Scalar.andi v221 v222
  let v224 : BitVec 32 := Scalar.extui v223
  let c0_i32_98 : BitVec 32 := 0#32
  let v225 : BitVec 1 := Scalar.cmpi .ne v224 c0_i32_98
  v225

def k0_off29 (i : grid0.Coords) (v219 : BitVec 32) : Fin 2 → Nat :=
  let c0_115 : Index := 0#32
  let arg1 : BitVec 32 := BitVec.ofNat 32 (i 1).val
  let c71680_i32 : BitVec 32 := 71680#32
  let v19 : BitVec 32 := Scalar.muli arg1 c71680_i32
  let v220 : BitVec 32 := Scalar.subi v219 v19
  let c0_i32_108 : BitVec 32 := 0#32
  let v248 : BitVec 1 := Scalar.cmpi .sgt v220 c0_i32_108
  let v249 : BitVec 32 := Scalar.extui v248
  let c0_i32_109 : BitVec 32 := 0#32
  let v250 : BitVec 1 := Scalar.cmpi .slt v220 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v220 c128_i32
  let c0_i32_112 : BitVec 32 := 0#32
  let v260 : BitVec 1 := Scalar.cmpi .ne v259 c0_i32_112
  let v261 : BitVec 1 := Scalar.andi v258 v260
  let v247 : BitVec 32 := Scalar.divsi v220 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  let v265 : BitVec 32 := v264
  let v267 : Index := Scalar.indexCast v265
  ![0, v267.toNat]

def k0_chk29 (i : grid0.Coords) (v219 : BitVec 32) : Prop :=
  (∀ (k0_h4 : k0_cond4 i = 1#1), ∀ (k0_h33 : k0_cond33 i v219 = 1#1), 128 ∣ (k0_mult29 i v219).toNat) ∧
  (∀ (k0_h4 : k0_cond4 i = 1#1), ∀ (k0_h33 : k0_cond33 i v219 = 1#1), ∀ a, (k0_off29 i v219) a + S32x128.size a ≤ S32x71680.size a)
theorem k0_mult29_dvd : ∀ (i : grid0.Coords) (v219 : BitVec 32) (k0_hw29 : k0_chk29 i v219), ∀ (k0_h4 : k0_cond4 i = 1#1), ∀ (k0_h33 : k0_cond33 i v219 = 1#1), 128 ∣ (k0_mult29 i v219).toNat := fun i v219 k0_hw29 k0_h4 k0_h33 => k0_hw29.1 k0_h4 k0_h33
theorem k0_off29_inb : ∀ (i : grid0.Coords) (v219 : BitVec 32) (k0_hw29 : k0_chk29 i v219), ∀ (k0_h4 : k0_cond4 i = 1#1), ∀ (k0_h33 : k0_cond33 i v219 = 1#1), ∀ a, (k0_off29 i v219) a + S32x128.size a ≤ S32x71680.size a := fun i v219 k0_hw29 k0_h4 k0_h33 => k0_hw29.2 k0_h4 k0_h33

def k0_mult30 (i : grid0.Coords) (v226 : BitVec 32) : BitVec 32 :=
  let arg1 : BitVec 32 := BitVec.ofNat 32 (i 1).val
  let c71680_i32 : BitVec 32 := 71680#32
  let v19 : BitVec 32 := Scalar.muli arg1 c71680_i32
  let v227 : BitVec 32 := Scalar.subi v226 v19
  let c0_i32_108 : BitVec 32 := 0#32
  let v248 : BitVec 1 := Scalar.cmpi .sgt v227 c0_i32_108
  let v249 : BitVec 32 := Scalar.extui v248
  let c0_i32_109 : BitVec 32 := 0#32
  let v250 : BitVec 1 := Scalar.cmpi .slt v227 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v227 c128_i32
  let c0_i32_112 : BitVec 32 := 0#32
  let v260 : BitVec 1 := Scalar.cmpi .ne v259 c0_i32_112
  let v261 : BitVec 1 := Scalar.andi v258 v260
  let v247 : BitVec 32 := Scalar.divsi v227 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  v264
def k0_cond34 (i : grid0.Coords) (v226 : BitVec 32) : BitVec 1 :=
  let arg1 : BitVec 32 := BitVec.ofNat 32 (i 1).val
  let c71680_i32 : BitVec 32 := 71680#32
  let v19 : BitVec 32 := Scalar.muli arg1 c71680_i32
  let v227 : BitVec 32 := Scalar.subi v226 v19
  let c0_i32_99 : BitVec 32 := 0#32
  let v228 : BitVec 1 := Scalar.cmpi .sge v227 c0_i32_99
  let c71680_i32_100 : BitVec 32 := 71680#32
  let v229 : BitVec 1 := Scalar.cmpi .slt v227 c71680_i32_100
  let v230 : BitVec 1 := Scalar.andi v228 v229
  let v231 : BitVec 32 := Scalar.extui v230
  let c0_i32_101 : BitVec 32 := 0#32
  let v232 : BitVec 1 := Scalar.cmpi .ne v231 c0_i32_101
  v232

def k0_off30 (i : grid0.Coords) (v226 : BitVec 32) : Fin 2 → Nat :=
  let c0_115 : Index := 0#32
  let arg1 : BitVec 32 := BitVec.ofNat 32 (i 1).val
  let c71680_i32 : BitVec 32 := 71680#32
  let v19 : BitVec 32 := Scalar.muli arg1 c71680_i32
  let v227 : BitVec 32 := Scalar.subi v226 v19
  let c0_i32_108 : BitVec 32 := 0#32
  let v248 : BitVec 1 := Scalar.cmpi .sgt v227 c0_i32_108
  let v249 : BitVec 32 := Scalar.extui v248
  let c0_i32_109 : BitVec 32 := 0#32
  let v250 : BitVec 1 := Scalar.cmpi .slt v227 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v227 c128_i32
  let c0_i32_112 : BitVec 32 := 0#32
  let v260 : BitVec 1 := Scalar.cmpi .ne v259 c0_i32_112
  let v261 : BitVec 1 := Scalar.andi v258 v260
  let v247 : BitVec 32 := Scalar.divsi v227 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  let v265 : BitVec 32 := v264
  let v267 : Index := Scalar.indexCast v265
  ![0, v267.toNat]

def k0_chk30 (i : grid0.Coords) (v226 : BitVec 32) : Prop :=
  (∀ (k0_h4 : k0_cond4 i = 1#1), ∀ (k0_h34 : k0_cond34 i v226 = 1#1), 128 ∣ (k0_mult30 i v226).toNat) ∧
  (∀ (k0_h4 : k0_cond4 i = 1#1), ∀ (k0_h34 : k0_cond34 i v226 = 1#1), ∀ a, (k0_off30 i v226) a + S32x128.size a ≤ S32x71680.size a)
theorem k0_mult30_dvd : ∀ (i : grid0.Coords) (v226 : BitVec 32) (k0_hw30 : k0_chk30 i v226), ∀ (k0_h4 : k0_cond4 i = 1#1), ∀ (k0_h34 : k0_cond34 i v226 = 1#1), 128 ∣ (k0_mult30 i v226).toNat := fun i v226 k0_hw30 k0_h4 k0_h34 => k0_hw30.1 k0_h4 k0_h34
theorem k0_off30_inb : ∀ (i : grid0.Coords) (v226 : BitVec 32) (k0_hw30 : k0_chk30 i v226), ∀ (k0_h4 : k0_cond4 i = 1#1), ∀ (k0_h34 : k0_cond34 i v226 = 1#1), ∀ a, (k0_off30 i v226) a + S32x128.size a ≤ S32x71680.size a := fun i v226 k0_hw30 k0_h4 k0_h34 => k0_hw30.2 k0_h4 k0_h34

def k0_mult31 (i : grid0.Coords) (v233 : BitVec 32) : BitVec 32 :=
  let arg1 : BitVec 32 := BitVec.ofNat 32 (i 1).val
  let c71680_i32 : BitVec 32 := 71680#32
  let v19 : BitVec 32 := Scalar.muli arg1 c71680_i32
  let v234 : BitVec 32 := Scalar.subi v233 v19
  let c0_i32_108 : BitVec 32 := 0#32
  let v248 : BitVec 1 := Scalar.cmpi .sgt v234 c0_i32_108
  let v249 : BitVec 32 := Scalar.extui v248
  let c0_i32_109 : BitVec 32 := 0#32
  let v250 : BitVec 1 := Scalar.cmpi .slt v234 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v234 c128_i32
  let c0_i32_112 : BitVec 32 := 0#32
  let v260 : BitVec 1 := Scalar.cmpi .ne v259 c0_i32_112
  let v261 : BitVec 1 := Scalar.andi v258 v260
  let v247 : BitVec 32 := Scalar.divsi v234 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  v264
def k0_cond35 (i : grid0.Coords) (v233 : BitVec 32) : BitVec 1 :=
  let arg1 : BitVec 32 := BitVec.ofNat 32 (i 1).val
  let c71680_i32 : BitVec 32 := 71680#32
  let v19 : BitVec 32 := Scalar.muli arg1 c71680_i32
  let v234 : BitVec 32 := Scalar.subi v233 v19
  let c0_i32_102 : BitVec 32 := 0#32
  let v235 : BitVec 1 := Scalar.cmpi .sge v234 c0_i32_102
  let c71680_i32_103 : BitVec 32 := 71680#32
  let v236 : BitVec 1 := Scalar.cmpi .slt v234 c71680_i32_103
  let v237 : BitVec 1 := Scalar.andi v235 v236
  let v238 : BitVec 32 := Scalar.extui v237
  let c0_i32_104 : BitVec 32 := 0#32
  let v239 : BitVec 1 := Scalar.cmpi .ne v238 c0_i32_104
  v239

def k0_off31 (i : grid0.Coords) (v233 : BitVec 32) : Fin 2 → Nat :=
  let c0_115 : Index := 0#32
  let arg1 : BitVec 32 := BitVec.ofNat 32 (i 1).val
  let c71680_i32 : BitVec 32 := 71680#32
  let v19 : BitVec 32 := Scalar.muli arg1 c71680_i32
  let v234 : BitVec 32 := Scalar.subi v233 v19
  let c0_i32_108 : BitVec 32 := 0#32
  let v248 : BitVec 1 := Scalar.cmpi .sgt v234 c0_i32_108
  let v249 : BitVec 32 := Scalar.extui v248
  let c0_i32_109 : BitVec 32 := 0#32
  let v250 : BitVec 1 := Scalar.cmpi .slt v234 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v234 c128_i32
  let c0_i32_112 : BitVec 32 := 0#32
  let v260 : BitVec 1 := Scalar.cmpi .ne v259 c0_i32_112
  let v261 : BitVec 1 := Scalar.andi v258 v260
  let v247 : BitVec 32 := Scalar.divsi v234 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  let v265 : BitVec 32 := v264
  let v267 : Index := Scalar.indexCast v265
  ![0, v267.toNat]

def k0_chk31 (i : grid0.Coords) (v233 : BitVec 32) : Prop :=
  (∀ (k0_h4 : k0_cond4 i = 1#1), ∀ (k0_h35 : k0_cond35 i v233 = 1#1), 128 ∣ (k0_mult31 i v233).toNat) ∧
  (∀ (k0_h4 : k0_cond4 i = 1#1), ∀ (k0_h35 : k0_cond35 i v233 = 1#1), ∀ a, (k0_off31 i v233) a + S32x128.size a ≤ S32x71680.size a)
theorem k0_mult31_dvd : ∀ (i : grid0.Coords) (v233 : BitVec 32) (k0_hw31 : k0_chk31 i v233), ∀ (k0_h4 : k0_cond4 i = 1#1), ∀ (k0_h35 : k0_cond35 i v233 = 1#1), 128 ∣ (k0_mult31 i v233).toNat := fun i v233 k0_hw31 k0_h4 k0_h35 => k0_hw31.1 k0_h4 k0_h35
theorem k0_off31_inb : ∀ (i : grid0.Coords) (v233 : BitVec 32) (k0_hw31 : k0_chk31 i v233), ∀ (k0_h4 : k0_cond4 i = 1#1), ∀ (k0_h35 : k0_cond35 i v233 = 1#1), ∀ a, (k0_off31 i v233) a + S32x128.size a ≤ S32x71680.size a := fun i v233 k0_hw31 k0_h4 k0_h35 => k0_hw31.2 k0_h4 k0_h35

def k0_mult32 (i : grid0.Coords) (v240 : BitVec 32) : BitVec 32 :=
  let arg1 : BitVec 32 := BitVec.ofNat 32 (i 1).val
  let c71680_i32 : BitVec 32 := 71680#32
  let v19 : BitVec 32 := Scalar.muli arg1 c71680_i32
  let v241 : BitVec 32 := Scalar.subi v240 v19
  let c0_i32_108 : BitVec 32 := 0#32
  let v248 : BitVec 1 := Scalar.cmpi .sgt v241 c0_i32_108
  let v249 : BitVec 32 := Scalar.extui v248
  let c0_i32_109 : BitVec 32 := 0#32
  let v250 : BitVec 1 := Scalar.cmpi .slt v241 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v241 c128_i32
  let c0_i32_112 : BitVec 32 := 0#32
  let v260 : BitVec 1 := Scalar.cmpi .ne v259 c0_i32_112
  let v261 : BitVec 1 := Scalar.andi v258 v260
  let v247 : BitVec 32 := Scalar.divsi v241 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  v264
def k0_cond36 (i : grid0.Coords) (v240 : BitVec 32) : BitVec 1 :=
  let arg1 : BitVec 32 := BitVec.ofNat 32 (i 1).val
  let c71680_i32 : BitVec 32 := 71680#32
  let v19 : BitVec 32 := Scalar.muli arg1 c71680_i32
  let v241 : BitVec 32 := Scalar.subi v240 v19
  let c0_i32_105 : BitVec 32 := 0#32
  let v242 : BitVec 1 := Scalar.cmpi .sge v241 c0_i32_105
  let c71680_i32_106 : BitVec 32 := 71680#32
  let v243 : BitVec 1 := Scalar.cmpi .slt v241 c71680_i32_106
  let v244 : BitVec 1 := Scalar.andi v242 v243
  let v245 : BitVec 32 := Scalar.extui v244
  let c0_i32_107 : BitVec 32 := 0#32
  let v246 : BitVec 1 := Scalar.cmpi .ne v245 c0_i32_107
  v246

def k0_off32 (i : grid0.Coords) (v240 : BitVec 32) : Fin 2 → Nat :=
  let c0_115 : Index := 0#32
  let arg1 : BitVec 32 := BitVec.ofNat 32 (i 1).val
  let c71680_i32 : BitVec 32 := 71680#32
  let v19 : BitVec 32 := Scalar.muli arg1 c71680_i32
  let v241 : BitVec 32 := Scalar.subi v240 v19
  let c0_i32_108 : BitVec 32 := 0#32
  let v248 : BitVec 1 := Scalar.cmpi .sgt v241 c0_i32_108
  let v249 : BitVec 32 := Scalar.extui v248
  let c0_i32_109 : BitVec 32 := 0#32
  let v250 : BitVec 1 := Scalar.cmpi .slt v241 c0_i32_109
  let v251 : BitVec 32 := Scalar.extui v250
  let v252 : BitVec 32 := Scalar.subi v249 v251
  let c128_i32 : BitVec 32 := 128#32
  let c0_i32_110 : BitVec 32 := 0#32
  let v253 : BitVec 1 := Scalar.cmpi .sgt c128_i32 c0_i32_110
  let v254 : BitVec 32 := Scalar.extui v253
  let c0_i32_111 : BitVec 32 := 0#32
  let v255 : BitVec 1 := Scalar.cmpi .slt c128_i32 c0_i32_111
  let v256 : BitVec 32 := Scalar.extui v255
  let v257 : BitVec 32 := Scalar.subi v254 v256
  let v258 : BitVec 1 := Scalar.cmpi .ne v252 v257
  let v259 : BitVec 32 := Scalar.remsi v241 c128_i32
  let c0_i32_112 : BitVec 32 := 0#32
  let v260 : BitVec 1 := Scalar.cmpi .ne v259 c0_i32_112
  let v261 : BitVec 1 := Scalar.andi v258 v260
  let v247 : BitVec 32 := Scalar.divsi v241 c128_i32
  let c1_i32_113 : BitVec 32 := 1#32
  let v262 : BitVec 32 := Scalar.subi v247 c1_i32_113
  let v263 : BitVec 32 := Scalar.select v261 v262 v247
  let c128_i32_114 : BitVec 32 := 128#32
  let v264 : BitVec 32 := Scalar.muli v263 c128_i32_114
  let v265 : BitVec 32 := v264
  let v267 : Index := Scalar.indexCast v265
  ![0, v267.toNat]

def k0_chk32 (i : grid0.Coords) (v240 : BitVec 32) : Prop :=
  (∀ (k0_h4 : k0_cond4 i = 1#1), ∀ (k0_h36 : k0_cond36 i v240 = 1#1), 128 ∣ (k0_mult32 i v240).toNat) ∧
  (∀ (k0_h4 : k0_cond4 i = 1#1), ∀ (k0_h36 : k0_cond36 i v240 = 1#1), ∀ a, (k0_off32 i v240) a + S32x128.size a ≤ S32x71680.size a)
theorem k0_mult32_dvd : ∀ (i : grid0.Coords) (v240 : BitVec 32) (k0_hw32 : k0_chk32 i v240), ∀ (k0_h4 : k0_cond4 i = 1#1), ∀ (k0_h36 : k0_cond36 i v240 = 1#1), 128 ∣ (k0_mult32 i v240).toNat := fun i v240 k0_hw32 k0_h4 k0_h36 => k0_hw32.1 k0_h4 k0_h36
theorem k0_off32_inb : ∀ (i : grid0.Coords) (v240 : BitVec 32) (k0_hw32 : k0_chk32 i v240), ∀ (k0_h4 : k0_cond4 i = 1#1), ∀ (k0_h36 : k0_cond36 i v240 = 1#1), ∀ a, (k0_off32 i v240) a + S32x128.size a ≤ S32x71680.size a := fun i v240 k0_hw32 k0_h4 k0_h36 => k0_hw32.2 k0_h4 k0_h36

def k0_cond3 (i : grid0.Coords) : BitVec 1 :=
  let arg0 : BitVec 32 := BitVec.ofNat 32 (i 0).val
  let c0_i32_4 : BitVec 32 := 0#32
  let v11 : BitVec 1 := Scalar.cmpi .eq arg0 c0_i32_4
  let arg1 : BitVec 32 := BitVec.ofNat 32 (i 1).val
  let c13_i32_5 : BitVec 32 := 13#32
  let v12 : BitVec 1 := Scalar.cmpi .eq arg1 c13_i32_5
  let v13 : BitVec 1 := Scalar.andi v11 v12
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![c0_i32_1.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![c0_i32_1.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S32x71680 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x71680 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S32x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== ReferenceIdeal.lean ====
abbrev S32x1000000 : Shape := ⟨2, ![32, 1000000]⟩
abbrev S_ : Shape := ⟨0, ![]⟩
abbrev S32 : Shape := ⟨1, ![32]⟩
abbrev S32x1 : Shape := ⟨2, ![32, 1]⟩
abbrev S32x32 : Shape := ⟨2, ![32, 32]⟩

abbrev nBuf : Space → Nat
  | .hbm => 21
  | .vmem => 0
  | .smem => 0
  | _ => 0

abbrev bufTy : (tb : Table) → Fin (tcTables nBuf tb) → BufTy
  | .hbm, ⟨0, _⟩ => ⟨S32x1000000, .f32⟩
  | .hbm, ⟨1, _⟩ => ⟨S32x1000000, .f32⟩
  | .hbm, ⟨2, _⟩ => ⟨S_, .f32⟩
  | .hbm, ⟨3, _⟩ => ⟨S32x1000000, .f32⟩
  | .hbm, ⟨4, _⟩ => ⟨S32x1000000, .i32⟩
  | .hbm, ⟨5, _⟩ => ⟨S_, .f32⟩
  | .hbm, ⟨6, _⟩ => ⟨S_, .i32⟩
  | .hbm, ⟨7, _⟩ => ⟨S32, .f32⟩
  | .hbm, ⟨8, _⟩ => ⟨S32, .i32⟩
  | .hbm, ⟨9, _⟩ => ⟨S32x1, .i32⟩
  | .hbm, ⟨10, _⟩ => ⟨S32, .i32⟩
  | .hbm, ⟨11, _⟩ => ⟨S_, .i32⟩
  | .hbm, ⟨12, _⟩ => ⟨S32, .i32⟩
  | .hbm, ⟨13, _⟩ => ⟨S32, .i1⟩
  | .hbm, ⟨14, _⟩ => ⟨S_, .i32⟩
  | .hbm, ⟨15, _⟩ => ⟨S32, .i32⟩
  | .hbm, ⟨16, _⟩ => ⟨S32, .i32⟩
  | .hbm, ⟨17, _⟩ => ⟨S32, .i32⟩
  | .hbm, ⟨18, _⟩ => ⟨S32x1, .i32⟩
  | .hbm, ⟨19, _⟩ => ⟨S32x32, .f32⟩
  | .hbm, ⟨20, _⟩ => ⟨S32x1000000, .f32⟩
  | _, _ => ⟨S32x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_cst : Ref sig .tc := ⟨.hbm, 5, rfl⟩
abbrev main_call0_c : Ref sig .tc := ⟨.hbm, 6, rfl⟩
abbrev main_call0_v1_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩

abbrev nD : Nat := 1
abbrev τ : Topo := Topo.v7x

variable {F : FTy → Type} [FloatOps F]
-- ==== Proof.Ideal.Runs.lean ====
/-
  A relation for straight-line runs of the kernel's body over the contents of its seven buffers, and its soundness.

  `Run a p s v s'` says: the program `p`, started with the seven buffers at the contents `s`, returns `v` and leaves them
  at `s'`. Its rules are the loads, the stores and the side conditions the body has. `Run.sound` carries such a run
  to the weakest precondition of the program logic, so that the body is followed by rules about plain functions.
-/
module

public import proofs.«01_k».proof.Proof.Gen.KernelIdeal.Frame

@[expose] public section

noncomputable section

namespace Cert.KernelIdeal.Argmax

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents of the body's seven buffers: the value to write, the block of logits, the block of the first
    result, the second result, the lanes' maxima, their columns, and the rows' columns in scalar memory. -/
structure St (F : FTy → Type) where
  pv : S1x1.Idx → Elt F .f32
  x : S32x71680.Idx → Elt F .f32
  o : S32x71680.Idx → Elt F .f32
  ix : S32x1.Idx → Elt F .i32
  bv : S32x128.Idx → Elt F .f32
  bi : S32x128.Idx → Elt F .i32
  js : S32.Idx → Elt F .i32

/-- The seven buffers of one call of the body. -/
structure Bufs where
  a2 : Memref sig .tc .smem S1x1 .f32
  a3 : Memref sig .tc .vmem S32x71680 .f32
  a4 : Memref sig .tc .vmem S32x71680 .f32
  a5 : Memref sig .tc .vmem S32x1 .i32
  a6 : Memref sig .tc .vmem S32x128 .f32
  a7 : Memref sig .tc .vmem S32x128 .i32
  a8 : Memref sig .tc .smem S32 .i32

/-- What a load at the coordinates `r` reads of contents `X`. -/
abbrev get {s : Shape} {A : Type} (r : LoadRect s) (X : s.Idx → A) : r.shape.Idx → A := fun j => X (r.idx j)

/-- The straight-line runs of the body's operations. -/
inductive Run (a : Bufs) : {A : Type} → Prog (TpuEff nD τ sig (Elt F) Λ₀ .tc) A → St F → A → St F → Prop where
  | ret {A : Type} {v : A} {s : St F} : Run a (.ret v) s v s
  | ld2 {A : Type} {r : LoadRect S1x1} {h} {k : _ → Prog (TpuEff nD τ sig (Elt F) Λ₀ .tc) A} {s v s'} :
      Run a (k (get r s.pv)) s v s' → Run a (.op (.load a.a2 r h) k) s v s'
  | ld3 {A : Type} {r : LoadRect S32x71680} {h} {k : _ → Prog (TpuEff nD τ sig (Elt F) Λ₀ .tc) A} {s v s'} :
      Run a (k (get r s.x)) s v s' → Run a (.op (.load a.a3 r h) k) s v s'
  | ld4 {A : Type} {r : LoadRect S32x71680} {h} {k : _ → Prog (TpuEff nD τ sig (Elt F) Λ₀ .tc) A} {s v s'} :
      Run a (k (get r s.o)) s v s' → Run a (.op (.load a.a4 r h) k) s v s'
  | ld5 {A : Type} {r : LoadRect S32x1} {h} {k : _ → Prog (TpuEff nD τ sig (Elt F) Λ₀ .tc) A} {s v s'} :
      Run a (k (get r s.ix)) s v s' → Run a (.op (.load a.a5 r h) k) s v s'
  | ld6 {A : Type} {r : LoadRect S32x128} {h} {k : _ → Prog (TpuEff nD τ sig (Elt F) Λ₀ .tc) A} {s v s'} :
      Run a (k (get r s.bv)) s v s' → Run a (.op (.load a.a6 r h) k) s v s'
  | ld7 {A : Type} {r : LoadRect S32x128} {h} {k : _ → Prog (TpuEff nD τ sig (Elt F) Λ₀ .tc) A} {s v s'} :
      Run a (k (get r s.bi)) s v s' → Run a (.op (.load a.a7 r h) k) s v s'
  | ld8 {A : Type} {r : LoadRect S32} {h} {k : _ → Prog (TpuEff nD τ sig (Elt F) Λ₀ .tc) A} {s v s'} :
      Run a (k (get r s.js)) s v s' → Run a (.op (.load a.a8 r h) k) s v s'
  | st4 {A : Type} {r : Rect S32x71680} {w h hm} {k : _ → Prog (TpuEff nD τ sig (Elt F) Λ₀ .tc) A} {s v s'} :
      Run a (k ⟨⟩) { s with o := r.overlay s.o w } v s' → Run a (.op (.store a.a4 r w Finset.univ h hm) k) s v s'
  | st5 {A : Type} {r : Rect S32x1} {w h hm} {k : _ → Prog (TpuEff nD τ sig (Elt F) Λ₀ .tc) A} {s v s'} :
      Run a (k ⟨⟩) { s with ix := r.overlay s.ix w } v s' → Run a (.op (.store a.a5 r w Finset.univ h hm) k) s v s'
  | st6 {A : Type} {r : Rect S32x128} {w h hm} {k : _ → Prog (TpuEff nD τ sig (Elt F) Λ₀ .tc) A} {s v s'} :
      Run a (k ⟨⟩) { s with bv := r.overlay s.bv w } v s' → Run a (.op (.store a.a6 r w Finset.univ h hm) k) s v s'
  | st7 {A : Type} {r : Rect S32x128} {w h hm} {k : _ → Prog (TpuEff nD τ sig (Elt F) Λ₀ .tc) A} {s v s'} :
      Run a (k ⟨⟩) { s with bi := r.overlay s.bi w } v s' → Run a (.op (.store a.a7 r w Finset.univ h hm) k) s v s'
  | st8 {A : Type} {r : Rect S32} {w h hm} {k : _ → Prog (TpuEff nD τ sig (Elt F) Λ₀ .tc) A} {s v s'} :
      Run a (k ⟨⟩) { s with js := r.overlay s.js w } v s' → Run a (.op (.store a.a8 r w Finset.univ h hm) k) s v s'
  | asm {A : Type} {P : Prop} {d : Decidable P} {k : _ → Prog (TpuEff nD τ sig (Elt F) Λ₀ .tc) A} {s v s'} (hP : P) :
      Run a (k ⟨hP⟩) s v s' → Run a (.op (.assume P d) k) s v s'

/-- Runs compose. -/
theorem Run.bind {a : Bufs} {A B : Type} {p : Prog (TpuEff nD τ sig (Elt F) Λ₀ .tc) A} {s v s'} (h : Run a p s v s') :
    ∀ {k : A → Prog (TpuEff nD τ sig (Elt F) Λ₀ .tc) B} {w s''}, Run a (k v) s' w s'' → Run a (p >>= k) s w s'' := by
  induction h with
  | ret => exact id
  | ld2 _ ih => exact fun hk => .ld2 (ih hk)
  | ld3 _ ih => exact fun hk => .ld3 (ih hk)
  | ld4 _ ih => exact fun hk => .ld4 (ih hk)
  | ld5 _ ih => exact fun hk => .ld5 (ih hk)
  | ld6 _ ih => exact fun hk => .ld6 (ih hk)
  | ld7 _ ih => exact fun hk => .ld7 (ih hk)
  | ld8 _ ih => exact fun hk => .ld8 (ih hk)
  | st4 _ ih => exact fun hk => .st4 (ih hk)
  | st5 _ ih => exact fun hk => .st5 (ih hk)
  | st6 _ ih => exact fun hk => .st6 (ih hk)
  | st7 _ ih => exact fun hk => .st7 (ih hk)
  | st8 _ ih => exact fun hk => .st8 (ih hk)
  | asm hP _ ih => exact fun hk => .asm hP (ih hk)

/-- The seven buffers held at the contents `s`. -/
def Own (c : Dev nD) (a : Bufs) (s : St F) : sProp 𝕄 :=
  iprop(owns (c : Thread nD τ) a.a2 fullShare s.pv ∗ owns (c : Thread nD τ) a.a3 fullShare s.x
    ∗ owns (c : Thread nD τ) a.a4 fullShare s.o ∗ owns (c : Thread nD τ) a.a5 fullShare s.ix
    ∗ owns (c : Thread nD τ) a.a6 fullShare s.bv ∗ owns (c : Thread nD τ) a.a7 fullShare s.bi
    ∗ owns (c : Thread nD τ) a.a8 fullShare s.js)

variable (𝒱 : Variants)

/-- A load of a buffer held at `X` reads `X` at the coordinates and leaves it so. -/
theorem wp_get (c : Dev nD) {cs : CoreSpace} {s : Shape} {e : EltTy} {m : Memref sig .tc cs s e} {r : LoadRect s}
    {hl : m.view.LoadsAt r} {A : Type} {k : (r.shape.Idx → Elt F e) → Prog (TpuEff nD τ sig (Elt F) Λ₀ .tc) A}
    {X : s.Idx → Elt F e} {Q : A → sProp 𝕄} :
    owns (c : Thread nD τ) m fullShare X
      ⊢ iprop((owns (c : Thread nD τ) m fullShare X -∗ wp frame (wpE defs₀ 𝒱 (c : Thread nD τ) none) Set.univ (k (get r X)) Q)
        -∗ wp frame (wpE defs₀ 𝒱 (c : Thread nD τ) none) Set.univ (.op (.load m r hl) k) Q) := by
  unfold owns
  iintro ⟨%f, %hf, Hf⟩ Hk
  iapply (wp_load (defs := defs₀) 𝒱 (c : Thread nD τ) none Set.univ (m := m) (r := r) (hl := hl) (k := k) (S := m.view.set) (q := fullShare)
    (f := f) (Finset.map_subset_map.mpr (Finset.subset_univ _))) $$ Hf
  iintro Hf
  have : m.view.readAt (Elt F) r f = get r X := by subst hf; rfl
  rw [this]
  iapply Hk
  iexists f; isplitr; · ipureintro; exact hf
  iexact Hf

/-- A full store through a rectangle of a buffer held at `X` leaves it at `X` overlaid there. -/
theorem wp_put (c : Dev nD) {cs : CoreSpace} {s : Shape} {e : EltTy} {m : Memref sig .tc cs s e} {r : Rect s}
    {w : r.shape.Idx → Elt F e} {hx : (m.access r).Stores Finset.univ} {hm : Finset.univ = Finset.univ ∨ ∀ a, r.stride a = 1}
    {A : Type} {k : PUnit → Prog (TpuEff nD τ sig (Elt F) Λ₀ .tc) A} {X : s.Idx → Elt F e} {Q : A → sProp 𝕄} :
    owns (c : Thread nD τ) m fullShare X
      ⊢ iprop((owns (c : Thread nD τ) m fullShare (r.overlay X w) -∗ wp frame (wpE defs₀ 𝒱 (c : Thread nD τ) none) Set.univ (k ⟨⟩) Q)
        -∗ wp frame (wpE defs₀ 𝒱 (c : Thread nD τ) none) Set.univ (.op (.store m r w Finset.univ hx hm) k) Q) := by
  unfold owns
  iintro ⟨%f, %hf, Hf⟩ Hk
  iapply (wp_store (defs := defs₀) 𝒱 (c : Thread nD τ) none Set.univ (m := m) (r := r) (w := w) (Mk := Finset.univ) (hx := hx) (hm := hm) (k := k)
    (S := m.view.set) (f := f) (by
      show (m.view.slice r).setOn Finset.univ ⊆ m.view.set
      exact View.set_slice_subset _ _)) $$ Hf
  iintro Hf
  iapply Hk
  iexists ((m.access r).write (Elt F) f w Finset.univ)
  isplitr
  · ipureintro
    funext y
    by_cases hy : y ∈ r.set
    · obtain ⟨x, rfl⟩ := r.exists_idx_of_mem hy
      rw [show r.idx x = r.emb x from rfl, Rect.overlay_emb]
      exact View.read_slice_write_emb r f w (Finset.mem_univ x)
    · rw [Rect.overlay_of_not_mem _ _ _ hy, ← hf]
      exact View.read_slice_write_of_not_mem r f w _ (by rw [Rect.map_emb_univ]; exact hy)
  iexact Hf

/-- A run of the relation is a run of the program logic. -/
theorem Run.sound {a : Bufs} (c : Dev nD) {A : Type} {p : Prog (TpuEff nD τ sig (Elt F) Λ₀ .tc) A} {s v s'} (h : Run a p s v s') :
    ∀ {Q : A → sProp 𝕄}, iprop(Own c a s ∗ (Own c a s' -∗ Q v)) ⊢ wp frame (wpE defs₀ 𝒱 (c : Thread nD τ) none) Set.univ p Q := by
  induction h with
  | ret => intro Q; iintro ⟨H, Hk⟩; rw [wp_ret]; imodintro; iapply Hk; iexact H
  | ld2 _ ih =>
    intro Q; unfold Own at ih ⊢; iintro ⟨⟨H2, H3, H4, H5, H6, H7, H8⟩, Hk⟩
    iapply (wp_get 𝒱 c) $$ H2; iintro H2; iapply ih; iframe
  | ld3 _ ih =>
    intro Q; unfold Own at ih ⊢; iintro ⟨⟨H2, H3, H4, H5, H6, H7, H8⟩, Hk⟩
    iapply (wp_get 𝒱 c) $$ H3; iintro H3; iapply ih; iframe
  | ld4 _ ih =>
    intro Q; unfold Own at ih ⊢; iintro ⟨⟨H2, H3, H4, H5, H6, H7, H8⟩, Hk⟩
    iapply (wp_get 𝒱 c) $$ H4; iintro H4; iapply ih; iframe
  | ld5 _ ih =>
    intro Q; unfold Own at ih ⊢; iintro ⟨⟨H2, H3, H4, H5, H6, H7, H8⟩, Hk⟩
    iapply (wp_get 𝒱 c) $$ H5; iintro H5; iapply ih; iframe
  | ld6 _ ih =>
    intro Q; unfold Own at ih ⊢; iintro ⟨⟨H2, H3, H4, H5, H6, H7, H8⟩, Hk⟩
    iapply (wp_get 𝒱 c) $$ H6; iintro H6; iapply ih; iframe
  | ld7 _ ih =>
    intro Q; unfold Own at ih ⊢; iintro ⟨⟨H2, H3, H4, H5, H6, H7, H8⟩, Hk⟩
    iapply (wp_get 𝒱 c) $$ H7; iintro H7; iapply ih; iframe
  | ld8 _ ih =>
    intro Q; unfold Own at ih ⊢; iintro ⟨⟨H2, H3, H4, H5, H6, H7, H8⟩, Hk⟩
    iapply (wp_get 𝒱 c) $$ H8; iintro H8; iapply ih; iframe
  | st4 _ ih =>
    intro Q; unfold Own at ih ⊢; iintro ⟨⟨H2, H3, H4, H5, H6, H7, H8⟩, Hk⟩
    iapply (wp_put 𝒱 c) $$ H4; iintro H4; iapply ih; iframe
  | st5 _ ih =>
    intro Q; unfold Own at ih ⊢; iintro ⟨⟨H2, H3, H4, H5, H6, H7, H8⟩, Hk⟩
    iapply (wp_put 𝒱 c) $$ H5; iintro H5; iapply ih; iframe
  | st6 _ ih =>
    intro Q; unfold Own at ih ⊢; iintro ⟨⟨H2, H3, H4, H5, H6, H7, H8⟩, Hk⟩
    iapply (wp_put 𝒱 c) $$ H6; iintro H6; iapply ih; iframe
  | st7 _ ih =>
    intro Q; unfold Own at ih ⊢; iintro ⟨⟨H2, H3, H4, H5, H6, H7, H8⟩, Hk⟩
    iapply (wp_put 𝒱 c) $$ H7; iintro H7; iapply ih; iframe
  | st8 _ ih =>
    intro Q; unfold Own at ih ⊢; iintro ⟨⟨H2, H3, H4, H5, H6, H7, H8⟩, Hk⟩
    iapply (wp_put 𝒱 c) $$ H8; iintro H8; iapply ih; iframe
  | asm hP _ ih =>
    intro Q; iintro ⟨H, Hk⟩
    iapply (wp_assume (defs := defs₀) 𝒱 (c : Thread nD τ) none Set.univ hP)
    iapply ih; iframe

end Cert.KernelIdeal.Argmax

end
-- ==== Proof.Ideal.Rules.lean ====
/-
  Rules for the accesses the kernel's body makes at literal places, and the closed forms of what the body leaves in
  its buffers at a point of the first sweep: a block is scanned in four quarters of 128-column slices, each a strict
  running maximum with the slice it was met in, the quarters joined in order and the result folded into the scratch
  accumulators; after the last block each row's index is read off and copied into scalar memory.
-/
module

public import proofs.«01_k».proof.Proof.Ideal.Runs
public import proofs.«01_k».proof.Proof.Gen.KernelIdeal.Skeleton

@[expose] public section

set_option maxRecDepth 65536

noncomputable section

namespace Cert.KernelIdeal.Argmax

open Idealize.ShloMosaic Idealize.ShloMosaic.TcCoe Idealize.SL.Sem

variable {F : FTy → Type} [FloatOps F]

/-! ## Derived rules: the accesses at literal places -/

theorem slice_inb {m : Nat} (h : m + 128 ≤ 71680) : ∀ a, (![0, m] : Fin 2 → Nat) a + S32x128.size a ≤ S32x71680.size a := by
  intro a; fin_cases a
  · exact Nat.le_refl 32
  · exact h

/-- The 128 columns of a block from column `m` on (the block's first element where they are not all in the block). -/
def slice (x : S32x71680.Idx → Elt F .f32) (m : Nat) : Vec F S32x128 .f32 :=
  fun j => if h : m + 128 ≤ 71680 then x ((Rect.unit (s := S32x71680) ![0, m] S32x128.size (slice_inb h)).idx j)
    else x (fun a => ⟨0, by fin_cases a <;> decide⟩)

/-- A load of a slice of the block. -/
theorem Run.ldSlice {a : Bufs} {A : Type} {m : Nat} {inb} {h} {k : _ → Prog (TpuEff nD τ sig (Elt F) Λ₀ .tc) A} {pv x o ix bv bi js v s'}
    (H : Run a (k (slice x m)) ⟨pv, x, o, ix, bv, bi, js⟩ v s') :
    Run a (.op (.load a.a3 (Rect.unit (s := S32x71680) ![0, m] S32x128.size inb).toLoadRect h) k) ⟨pv, x, o, ix, bv, bi, js⟩ v s' := by
  refine .ld3 ?_
  have : slice x m = get (Rect.unit (s := S32x71680) ![0, m] S32x128.size inb).toLoadRect x := by
    funext j; exact dif_pos (inb 1)
  exact this ▸ H

/-- The rectangle of a whole shape names each index by itself. -/
theorem whole_idx {s : Shape} {off : Fin s.rank → Nat} (h0 : ∀ a, off a = 0) (inb) (j : s.Idx) :
    (Rect.unit (s := s) off s.size inb).emb j = j := by
  funext a
  apply Fin.ext
  rw [Rect.emb_apply]
  show off a + 1 * (j a).val = (j a).val
  rw [h0 a]; omega

theorem whole_overlay {s : Shape} {A : Type} {off : Fin s.rank → Nat} (h0 : ∀ a, off a = 0) (inb) (X w : s.Idx → A) :
    (Rect.unit (s := s) off s.size inb).overlay X w = w := by
  funext j
  have := Rect.overlay_emb (Rect.unit (s := s) off s.size inb) X w j
  rwa [whole_idx h0 inb j] at this

theorem zero₂ : ∀ a : Fin 2, (![0, 0] : Fin 2 → Nat) a = 0 := by decide

theorem Run.ldBv {a : Bufs} {A : Type} {inb} {h} {k : _ → Prog (TpuEff nD τ sig (Elt F) Λ₀ .tc) A} {pv x o ix bv bi js v s'}
    (H : Run a (k bv) ⟨pv, x, o, ix, bv, bi, js⟩ v s') :
    Run a (.op (.load a.a6 (Rect.unit (s := S32x128) ![0, 0] S32x128.size inb).toLoadRect h) k) ⟨pv, x, o, ix, bv, bi, js⟩ v s' := by
  refine .ld6 ?_
  have : bv = get (Rect.unit (s := S32x128) ![0, 0] S32x128.size inb).toLoadRect bv := by
    funext j; exact congrArg bv (whole_idx zero₂ inb j).symm
  exact this ▸ H

theorem Run.ldBi {a : Bufs} {A : Type} {inb} {h} {k : _ → Prog (TpuEff nD τ sig (Elt F) Λ₀ .tc) A} {pv x o ix bv bi js v s'}
    (H : Run a (k bi) ⟨pv, x, o, ix, bv, bi, js⟩ v s') :
    Run a (.op (.load a.a7 (Rect.unit (s := S32x128) ![0, 0] S32x128.size inb).toLoadRect h) k) ⟨pv, x, o, ix, bv, bi, js⟩ v s' := by
  refine .ld7 ?_
  have : bi = get (Rect.unit (s := S32x128) ![0, 0] S32x128.size inb).toLoadRect bi := by
    funext j; exact congrArg bi (whole_idx zero₂ inb j).symm
  exact this ▸ H

theorem Run.stBv {a : Bufs} {A : Type} {inb} {w : S32x128.Idx → Elt F .f32} {h hm} {k : _ → Prog (TpuEff nD τ sig (Elt F) Λ₀ .tc) A} {pv x o ix bv bi js v s'}
    (H : Run a (k ⟨⟩) ⟨pv, x, o, ix, w, bi, js⟩ v s') :
    Run a (.op (.store a.a6 (Rect.unit (s := S32x128) ![0, 0] S32x128.size inb) w Finset.univ h hm) k) ⟨pv, x, o, ix, bv, bi, js⟩ v s' := by
  refine .st6 ?_
  rw [whole_overlay zero₂ inb]; exact H

/-- The same store, its payload named. -/
theorem Run.stBvAs (w' : S32x128.Idx → Elt F .f32) {a : Bufs} {A : Type} {inb} {w : S32x128.Idx → Elt F .f32} {h hm} {k : _ → Prog (TpuEff nD τ sig (Elt F) Λ₀ .tc) A} {pv x o ix bv bi js v s'}
    (e : w = w') (H : Run a (k ⟨⟩) ⟨pv, x, o, ix, w', bi, js⟩ v s') :
    Run a (.op (.store a.a6 (Rect.unit (s := S32x128) ![0, 0] S32x128.size inb) w Finset.univ h hm) k) ⟨pv, x, o, ix, bv, bi, js⟩ v s' := by
  subst e; exact Run.stBv H

theorem Run.stBi {a : Bufs} {A : Type} {inb} {w : S32x128.Idx → Elt F .i32} {h hm} {k : _ → Prog (TpuEff nD τ sig (Elt F) Λ₀ .tc) A} {pv x o ix bv bi js v s'}
    (H : Run a (k ⟨⟩) ⟨pv, x, o, ix, bv, w, js⟩ v s') :
    Run a (.op (.store a.a7 (Rect.unit (s := S32x128) ![0, 0] S32x128.size inb) w Finset.univ h hm) k) ⟨pv, x, o, ix, bv, bi, js⟩ v s' := by
  refine .st7 ?_
  rw [whole_overlay zero₂ inb]; exact H

/-- The same store, its payload named. -/
theorem Run.stBiAs (w' : S32x128.Idx → Elt F .i32) {a : Bufs} {A : Type} {inb} {w : S32x128.Idx → Elt F .i32} {h hm} {k : _ → Prog (TpuEff nD τ sig (Elt F) Λ₀ .tc) A} {pv x o ix bv bi js v s'}
    (e : w = w') (H : Run a (k ⟨⟩) ⟨pv, x, o, ix, bv, w', js⟩ v s') :
    Run a (.op (.store a.a7 (Rect.unit (s := S32x128) ![0, 0] S32x128.size inb) w Finset.univ h hm) k) ⟨pv, x, o, ix, bv, bi, js⟩ v s' := by
  subst e; exact Run.stBi H

theorem Run.stIx {a : Bufs} {A : Type} {inb} {w : S32x1.Idx → Elt F .i32} {h hm} {k : _ → Prog (TpuEff nD τ sig (Elt F) Λ₀ .tc) A} {pv x o ix bv bi js v s'}
    (H : Run a (k ⟨⟩) ⟨pv, x, o, w, bv, bi, js⟩ v s') :
    Run a (.op (.store a.a5 (Rect.unit (s := S32x1) ![0, 0] S32x1.size inb) w Finset.univ h hm) k) ⟨pv, x, o, ix, bv, bi, js⟩ v s' := by
  refine .st5 ?_
  rw [whole_overlay zero₂ inb]; exact H

/-- The same store, its payload named. -/
theorem Run.stIxAs (w' : S32x1.Idx → Elt F .i32) {a : Bufs} {A : Type} {inb} {w : S32x1.Idx → Elt F .i32} {h hm} {k : _ → Prog (TpuEff nD τ sig (Elt F) Λ₀ .tc) A} {pv x o ix bv bi js v s'}
    (e : w = w') (H : Run a (k ⟨⟩) ⟨pv, x, o, w', bv, bi, js⟩ v s') :
    Run a (.op (.store a.a5 (Rect.unit (s := S32x1) ![0, 0] S32x1.size inb) w Finset.univ h hm) k) ⟨pv, x, o, ix, bv, bi, js⟩ v s' := by
  subst e; exact Run.stIx H

theorem Run.stO {a : Bufs} {A : Type} {inb} {w : S32x71680.Idx → Elt F .f32} {h hm} {k : _ → Prog (TpuEff nD τ sig (Elt F) Λ₀ .tc) A} {pv x o ix bv bi js v s'}
    (H : Run a (k ⟨⟩) ⟨pv, x, w, ix, bv, bi, js⟩ v s') :
    Run a (.op (.store a.a4 (Rect.unit (s := S32x71680) ![0, 0] S32x71680.size inb) w Finset.univ h hm) k) ⟨pv, x, o, ix, bv, bi, js⟩ v s' := by
  refine .st4 ?_
  rw [whole_overlay zero₂ inb]; exact H

/-- A region whose condition holds. -/
theorem Run.dpos {a : Bufs} {A : Type} {C : Prop} {d : Decidable C} {t : C → Prog (TpuEff nD τ sig (Elt F) Λ₀ .tc) A}
    {e : ¬C → Prog (TpuEff nD τ sig (Elt F) Λ₀ .tc) A} {s v s'} (hC : C) (H : Run a (t hC) s v s') : Run a (dite C t e) s v s' := by
  rw [dif_pos hC]; exact H

/-- A region whose condition fails. -/
theorem Run.dneg {a : Bufs} {A : Type} {C : Prop} {d : Decidable C} {t : C → Prog (TpuEff nD τ sig (Elt F) Λ₀ .tc) A}
    {e : ¬C → Prog (TpuEff nD τ sig (Elt F) Λ₀ .tc) A} {s v s'} (hC : ¬C) (H : Run a (e hC) s v s') : Run a (dite C t e) s v s' := by
  rw [dif_neg hC]; exact H

/-! ## The closed forms -/

/-- The running maximum of the slices `lo, …, lo + n` of `sl`. -/
def accV (sl : Nat → Vec F S32x128 .f32) (lo : Nat) : Nat → Vec F S32x128 .f32
  | 0 => sl lo
  | n + 1 => select (cmpf .ogt (sl (lo + n + 1)) (accV sl lo n)) (sl (lo + n + 1)) (accV sl lo n)

/-- The slice each lane's running maximum was met in first. -/
def accI (sl : Nat → Vec F S32x128 .f32) (lo : Nat) : Nat → IVec S32x128 32
  | 0 => broadcast S32x128 (BitVec.ofNat 32 lo)
  | n + 1 => select (cmpf .ogt (sl (lo + n + 1)) (accV sl lo n)) (broadcast S32x128 (BitVec.ofNat 32 (lo + n + 1))) (accI sl lo n)

/-- The larger of two lanes' values, the earlier where they tie. -/
def joinV (v₁ v₂ : Vec F S32x128 .f32) : Vec F S32x128 .f32 := select (cmpf .ogt v₂ v₁) v₂ v₁

/-- The position going with it. -/
def joinI (v₁ v₂ : Vec F S32x128 .f32) (i₁ i₂ : IVec S32x128 32) : IVec S32x128 32 := select (cmpf .ogt v₂ v₁) i₂ i₁

/-- Four quarters of a block: of `q` slices each, the last of `q'`. -/
def blockV (sl : Nat → Vec F S32x128 .f32) (q q' : Nat) : Vec F S32x128 .f32 :=
  joinV (joinV (joinV (accV sl 0 q) (accV sl (q + 1) q)) (accV sl (2 * (q + 1)) q)) (accV sl (3 * (q + 1)) q')

def blockI (sl : Nat → Vec F S32x128 .f32) (q q' : Nat) : IVec S32x128 32 :=
  joinI (joinV (joinV (accV sl 0 q) (accV sl (q + 1) q)) (accV sl (2 * (q + 1)) q)) (accV sl (3 * (q + 1)) q')
    (joinI (joinV (accV sl 0 q) (accV sl (q + 1) q)) (accV sl (2 * (q + 1)) q)
      (joinI (accV sl 0 q) (accV sl (q + 1) q) (accI sl 0 q) (accI sl (q + 1) q)) (accI sl (2 * (q + 1)) q)) (accI sl (3 * (q + 1)) q')

/-- The lane's number. -/
def lane : IVec S32x128 32 := iota .tc S32x128 32 [1] Gen.iota_S32x128_d1_w32

/-- The column a lane's slice stands for, in block `k`. -/
def gcol (k : Nat) (bs : IVec S32x128 32) : IVec S32x128 32 :=
  addi (addi (broadcast S32x128 (Scalar.muli (BitVec.ofNat 32 k) 71680#32)) (muli bs (broadcast S32x128 128#32))) lane

/-- The accumulators after a block. -/
def foldV (sl : Nat → Vec F S32x128 .f32) (q q' : Nat) (bv : Vec F S32x128 .f32) : Vec F S32x128 .f32 :=
  shapeCast S32x128 (select (cmpf .ogt (blockV sl q q') bv) (blockV sl q q') bv) Gen.shapeCasts_S32x128_S32x128

def foldI (k : Nat) (sl : Nat → Vec F S32x128 .f32) (q q' : Nat) (bv : Vec F S32x128 .f32) (bi : IVec S32x128 32) : IVec S32x128 32 :=
  shapeCast S32x128 (select (cmpf .ogt (blockV sl q q') bv) (gcol k (blockI sl q q')) bi) Gen.shapeCasts_S32x128_S32x128

/-- The slices of a block that lies inside the array. -/
def sl0 (x : S32x71680.Idx → Elt F .f32) (n : Nat) : Vec F S32x128 .f32 := slice x (128 * n)

/-- The slices of the last block: the last slice holds 64 columns of the array, the other lanes are masked. -/
def sl1 (x : S32x71680.Idx → Elt F .f32) (n : Nat) : Vec F S32x128 .f32 :=
  cond (Nat.beq n 532) (Gen.k0_pay2352 lane (slice x (128 * n))) (slice x (128 * n))

/-- The word the body copies into scalar memory for row `r`. -/
def jw (ix : IVec S32x1 32) (r : Nat) : BitVec 32 :=
  extractAt ![0, 0, 0] (shapeCast S1x1x1 (multiReductionI .maxsi [1, 2] S1 (shapeCast S1x32x1
    (select (cmpi .eq (iota .tc S32x1 32 [0] Gen.iota_S32x1_d0_w32) (broadcast S32x1 (BitVec.ofNat 32 r))) ix (broadcast S32x1 0#32))
    Gen.shapeCasts_S32x1_S1x32x1) 2147483648#32 Gen.reduces_S1x32x1_S1 rfl) Gen.shapeCasts_S1_S1x1x1) Gen.inpos_S1x1x1_p0_0_0

/-- The table with the word at `r` replaced. -/
def setJ (js : S32.Idx → BitVec 32) (r : Nat) (w : BitVec 32) : S32.Idx → BitVec 32 := fun j => if (j 0).val = r then w else js j

/-- The table after the first `n` rows were copied. -/
def jsUp (ix : IVec S32x1 32) (js : S32.Idx → BitVec 32) : Nat → S32.Idx → BitVec 32
  | 0 => js
  | n + 1 => setJ (jsUp ix js n) n (jw ix n)

/-- The table's word at `n`. -/
def jsAt (js : S32.Idx → BitVec 32) (n : Nat) : BitVec 32 := if h : n < 32 then js (fun a => ⟨n, by fin_cases a; exact h⟩) else 0#32

theorem unit1_idx {r : Nat} (hr : r < 32) (inb) (j) : (Rect.unit (s := S32) ![r] S1.size inb).emb j = fun a => ⟨r, by fin_cases a; exact hr⟩ := by
  funext a
  apply Fin.ext
  rw [Rect.emb_apply]
  fin_cases a
  have : (j 0).val = 0 := by have := (j 0).isLt; simp at this; omega
  show r + 1 * (j 0).val = r
  omega

theorem Run.ldJ {a : Bufs} {A : Type} {r : Nat} {inb} {h} {k : _ → Prog (TpuEff nD τ sig (Elt F) Λ₀ .tc) A} {pv x o ix bv bi js v s'}
    (H : Run a (k (fun _ => jsAt js r)) ⟨pv, x, o, ix, bv, bi, js⟩ v s') :
    Run a (.op (.load a.a8 (Rect.unit (s := S32) ![r] S1.size inb).toLoadRect h) k) ⟨pv, x, o, ix, bv, bi, js⟩ v s' := by
  refine .ld8 ?_
  have hr : r < 32 := inb 0
  have : (fun _ => jsAt js r) = get (Rect.unit (s := S32) ![r] S1.size inb).toLoadRect js := by
    funext j; rw [jsAt, dif_pos hr]; exact congrArg js (unit1_idx hr inb j).symm
  exact this ▸ H

theorem Run.stJ {a : Bufs} {A : Type} {r : Nat} {inb} {w : BitVec 32} {h hm} {k : _ → Prog (TpuEff nD τ sig (Elt F) Λ₀ .tc) A} {pv x o ix bv bi js v s'}
    (H : Run a (k ⟨⟩) ⟨pv, x, o, ix, bv, bi, (setJ js r w)⟩ v s') :
    Run a (.op (.store a.a8 (Rect.unit (s := S32) ![r] S1.size inb) (fun _ => w) Finset.univ h hm) k) ⟨pv, x, o, ix, bv, bi, js⟩ v s' := by
  refine .st8 ?_
  have hr : r < 32 := inb 0
  have : setJ js r w = (Rect.unit (s := S32) ![r] S1.size inb).overlay js (fun _ => w) := by
    funext j
    unfold setJ
    split
    · next e =>
      have : j = (Rect.unit (s := S32) ![r] S1.size inb).emb (fun a => ⟨0, by fin_cases a; exact Nat.one_pos⟩) := by
        rw [unit1_idx hr inb]; funext a; fin_cases a; exact Fin.ext e
      rw [this, Rect.overlay_emb]
    · next e =>
      symm
      refine Rect.overlay_of_not_mem _ _ _ ?_
      intro hy
      have h1 : r ≤ (j 0).val ∧ (j 0).val < r + 1 := Rect.mem_set_unit.mp hy 0
      exact e (by omega)
  exact this ▸ H

/-- The same store of the word `jw` names. -/
theorem Run.stJW {a : Bufs} {A : Type} {r : Nat} {inb} {w : BitVec 32} {h hm} {k : _ → Prog (TpuEff nD τ sig (Elt F) Λ₀ .tc) A}
    (X : IVec S32x1 32) {pv x o ix bv bi js v s'} (e : w = jw X r) (H : Run a (k ⟨⟩) ⟨pv, x, o, ix, bv, bi, setJ js r (jw X r)⟩ v s') :
    Run a (.op (.store a.a8 (Rect.unit (s := S32) ![r] S1.size inb) (fun _ => w) Finset.univ h hm) k) ⟨pv, x, o, ix, bv, bi, js⟩ v s' := by
  rw [e]; generalize jw X r = y at H ⊢; exact Run.stJ H

/-- The scalar the second pallas argument holds. -/
theorem Run.ldPv {a : Bufs} {A : Type} {inb} {h} {k : _ → Prog (TpuEff nD τ sig (Elt F) Λ₀ .tc) A} {pv x o ix bv bi js v s'}
    (H : Run a (k pv) ⟨pv, x, o, ix, bv, bi, js⟩ v s') :
    Run a (.op (.load a.a2 (Rect.unit (s := S1x1) ![0, 0] S1x1.size inb).toLoadRect h) k) ⟨pv, x, o, ix, bv, bi, js⟩ v s' := by
  refine .ld2 ?_
  have : pv = get (Rect.unit (s := S1x1) ![0, 0] S1x1.size inb).toLoadRect pv := by
    funext j; exact congrArg pv (whole_idx zero₂ inb j).symm
  exact this ▸ H

/-- The first region's condition. -/
def cond1 (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

/-- The second region's condition. -/
def cond2 (i : grid0.Coords) : BitVec 1 :=
  Scalar.cmpi .ne (Scalar.extui (Scalar.andi (Scalar.cmpi .eq (BitVec.ofNat 32 (i 0).val) 0#32) (Scalar.cmpi .slt (BitVec.ofNat 32 (i 1).val) 13#32)) : BitVec 32) 0#32

end Cert.KernelIdeal.Argmax

end
-- ==== Proof.Ideal.Pts.lean ====
/-
  The grid's points: which of the body's regions runs at each, which windows are fetched, written back or idle there,
  and where their blocks lie.
-/
module

public import proofs.«01_k».proof.Proof.Ideal.Rules
public import Idealize.ShloMosaic.Lib.Pipeline.Value

@[expose] public section

set_option maxRecDepth 65536

noncomputable section

namespace Cert.KernelIdeal.Argmax

open Idealize.ShloMosaic Idealize.ShloMosaic.TcCoe Idealize.SL.Sem

theorem c1_iff : ∀ t : Fin cfg0.N, cond1 (grid0.coords t) = 1#1 ↔ t.val = 0 := by decide +kernel
theorem c2_iff : ∀ t : Fin cfg0.N, cond2 (grid0.coords t) = 1#1 ↔ t.val < 13 := by decide +kernel
theorem c3_iff : ∀ t : Fin cfg0.N, k0_cond3 (grid0.coords t) = 1#1 ↔ t.val = 13 := by decide +kernel
theorem c4_iff : ∀ t : Fin cfg0.N, k0_cond4 (grid0.coords t) = 1#1 ↔ 14 ≤ t.val := by decide +kernel
theorem coord1 : ∀ t : Fin cfg0.N, ((grid0.coords t) 1).val = t.val % 14 := by decide +kernel

theorem fetch1 : ∀ t : Fin cfg0.N, (cfg0.win 1).fetch t = decide (t.val < 15) := by decide +kernel
theorem flush2 : ∀ t : Fin cfg0.N, (cfg0.win 2).flush t = decide (14 ≤ t.val) := by decide +kernel
theorem flush3 : ∀ t : Fin cfg0.N, (cfg0.win 3).flush t = decide (t.val = 27) := by decide +kernel
theorem idle2 : ∀ t : Fin cfg0.N, cfg0.idle 2 (cfg0.grid.coords t) = decide (t.val < 14) := by decide +kernel
theorem idle3 : ∀ t : Fin cfg0.N, cfg0.idle 3 (cfg0.grid.coords t) = decide (t.val ≠ 13) := by decide +kernel
theorem clip1 : ∀ t : Fin cfg0.N, 14 ≤ t.val → ∀ a, (cfg0.win 1).clip (cfg0.grid.coords t) a = none := by decide +kernel
theorem index1 : ∀ t : Fin cfg0.N, win0_1.index t = ![0, if t.val < 14 then t.val else 0] := by decide +kernel
theorem index2 : ∀ t : Fin cfg0.N, win0_2.index t = ![0, if t.val < 14 then 0 else t.val - 14] := by decide +kernel
theorem xsize1 : ∀ t : Fin cfg0.N, win0_1.xsize (grid0.coords t) 1 = if t.val = 13 then 68160 else 71680 := by decide +kernel
theorem xsize2 : ∀ t : Fin cfg0.N, win0_2.xsize (grid0.coords t) 1 = if t.val = 27 then 68160 else 71680 := by decide +kernel
theorem xsize1' : ∀ t : Fin cfg0.N, win0_1.xsize (grid0.coords t) 0 = 32 := by decide +kernel
theorem xsize2' : ∀ t : Fin cfg0.N, win0_2.xsize (grid0.coords t) 0 = 32 := by decide +kernel

end Cert.KernelIdeal.Argmax

end
-- ==== Proof.Ideal.Scan.lean ====
/-
  The body's runs at the points of the first sweep before its last.
-/
module

public import proofs.«01_k».proof.Proof.Ideal.Rules

@[expose] public section

set_option maxRecDepth 65536

noncomputable section

namespace Cert.KernelIdeal.Argmax

open Idealize.ShloMosaic Idealize.ShloMosaic.TcCoe Idealize.SL.Sem

variable {F : FTy → Type} [FloatOps F]

set_option maxHeartbeats 0 in
/-- The first point: the accumulators are reset first. -/
theorem run_first (i : grid0.Coords) (a : Bufs) (h2 h3 h4 h5 h6 h7 h8) (s : St F)
    (c1 : cond1 i = 1#1) (c2 : cond2 i = 1#1) (c3 : ¬ k0_cond3 i = 1#1) (c4 : ¬ k0_cond4 i = 1#1) :
    Run a (cc0__body (F := F) i a.a2 h2 a.a3 h3 a.a4 h4 a.a5 h5 a.a6 h6 a.a7 h7 a.a8 h8) s ⟨⟩
      { s with bv := foldV (sl0 s.x) 139 139 Gen.k0_pay1, bi := foldI (i 1).val (sl0 s.x) 139 139 Gen.k0_pay1 Gen.k0_pay2 } := by
  obtain ⟨pv, x, o, ix, bv, bi, js⟩ := s
  refine Run.dpos c1 ?_
  repeat refine Run.ldBv ?_
  refine Run.stBv ?_
  repeat refine Run.ldBi ?_
  refine Run.stBi ?_
  refine Run.dpos c2 ?_
  repeat refine Run.ldSlice ?_
  repeat refine Run.ldBv ?_
  refine Run.stBv ?_
  repeat refine Run.ldBi ?_
  refine Run.stBi ?_
  refine Run.dneg c3 ?_
  refine Run.dneg c4 ?_
  exact Run.ret

set_option maxHeartbeats 0 in
/-- A later point of the first sweep before its last. -/
theorem run_mid (i : grid0.Coords) (a : Bufs) (h2 h3 h4 h5 h6 h7 h8) (s : St F)
    (c1 : ¬ cond1 i = 1#1)
    (c2 : cond2 i = 1#1)
    (c3 : ¬ k0_cond3 i = 1#1) (c4 : ¬ k0_cond4 i = 1#1) :
    Run a (cc0__body (F := F) i a.a2 h2 a.a3 h3 a.a4 h4 a.a5 h5 a.a6 h6 a.a7 h7 a.a8 h8) s ⟨⟩
      { s with bv := foldV (sl0 s.x) 139 139 s.bv, bi := foldI (i 1).val (sl0 s.x) 139 139 s.bv s.bi } := by
  obtain ⟨pv, x, o, ix, bv, bi, js⟩ := s
  refine Run.dneg c1 ?_
  refine Run.dpos c2 ?_
  repeat refine Run.ldSlice ?_
  repeat refine Run.ldBv ?_
  refine Run.stBv ?_
  repeat refine Run.ldBi ?_
  refine Run.stBi ?_
  refine Run.dneg c3 ?_
  refine Run.dneg c4 ?_
  exact Run.ret

end Cert.KernelIdeal.Argmax

end
-- ==== Proof.Ideal.Tail.lean ====
/-
  The body's run at the first sweep's last point: the block's last slice is masked, the index of each row's maximum
  is read off the accumulators, stored, and copied word by word into scalar memory.
-/
module

public import proofs.«01_k».proof.Proof.Ideal.Rules

@[expose] public section

set_option maxRecDepth 65536

noncomputable section

namespace Cert.KernelIdeal.Argmax

open Idealize.ShloMosaic Idealize.ShloMosaic.TcCoe Idealize.SL.Sem

variable {F : FTy → Type} [FloatOps F]

set_option maxHeartbeats 0 in
/-- The first sweep's last point. -/
theorem run_tail (i : grid0.Coords) (a : Bufs) (h2 h3 h4 h5 h6 h7 h8) (s : St F)
    (c1 : ¬ cond1 i = 1#1) (c2 : ¬ cond2 i = 1#1) (c3 : k0_cond3 i = 1#1) (c4 : ¬ k0_cond4 i = 1#1) :
    Run a (cc0__body (F := F) i a.a2 h2 a.a3 h3 a.a4 h4 a.a5 h5 a.a6 h6 a.a7 h7 a.a8 h8) s ⟨⟩
      { s with
        bv := foldV (sl1 s.x) 133 130 s.bv, bi := foldI (i 1).val (sl1 s.x) 133 130 s.bv s.bi
        ix := Gen.k0_pay2365 (foldV (sl1 s.x) 133 130 s.bv) (foldI (i 1).val (sl1 s.x) 133 130 s.bv s.bi)
        js := jsUp (Gen.k0_pay2365 (foldV (sl1 s.x) 133 130 s.bv) (foldI (i 1).val (sl1 s.x) 133 130 s.bv s.bi)) s.js 32 } := by
  obtain ⟨pv, x, o, ix, bv, bi, js⟩ := s
  refine Run.dneg c1 ?_
  refine Run.dneg c2 ?_
  refine Run.dpos c3 ?_
  repeat refine Run.ldSlice ?_
  repeat refine Run.ldBv ?_
  refine Run.stBvAs (foldV (sl1 x) 133 130 bv) rfl ?_
  repeat refine Run.ldBi ?_
  refine Run.stBiAs (foldI (i 1).val (sl1 x) 133 130 bv bi) rfl ?_
  refine Run.ldBv ?_
  refine Run.ldBi ?_
  generalize foldV (sl1 x) 133 130 bv = V, foldI (i 1).val (sl1 x) 133 130 bv bi = I
  refine .ld5 ?_
  refine Run.stIxAs (Gen.k0_pay2365 V I) rfl ?_
  obtain ⟨X, hX⟩ : ∃ X, X = Gen.k0_pay2365 V I := ⟨_, rfl⟩
  rw [← hX]
  dsimp only [Gen.k0_pay2365] at hX
  simp only [← hX]
  iterate 32 (refine Run.ldJ ?_; refine Run.stJW X rfl ?_)
  refine Run.dneg c4 ?_
  exact Run.ret

end Cert.KernelIdeal.Argmax

end
-- ==== Proof.Ideal.Write.lean ====
/-
  The body's run at a point of the second sweep: the block is filled with ones, and for each word of the table that
  names a column of the block the penalty is written into that column.
-/
module

public import proofs.«01_k».proof.Proof.Ideal.Rules
public import Idealize.ShloMosaic.Lib.Pipeline.Value

@[expose] public section

set_option maxRecDepth 65536

noncomputable section

namespace Cert.KernelIdeal.Argmax

open Idealize.ShloMosaic Idealize.ShloMosaic.TcCoe Idealize.SL.Sem

variable {F : FTy → Type} [FloatOps F]

/-! ## The column's word, rounded down to a multiple of 128 -/

/-- The word the body computes as `(d // 128) * 128`. -/
def fl (d : BitVec 32) : BitVec 32 :=
  Scalar.muli (Scalar.select (Scalar.andi (Scalar.cmpi .ne
      (Scalar.subi (Scalar.extui (Scalar.cmpi .sgt d 0#32)) (Scalar.extui (Scalar.cmpi .slt d 0#32)))
      (Scalar.subi (Scalar.extui (Scalar.cmpi .sgt 128#32 0#32)) (Scalar.extui (Scalar.cmpi .slt 128#32 0#32))))
      (Scalar.cmpi .ne (Scalar.remsi d 128#32) 0#32)) (Scalar.subi (Scalar.divsi d 128#32) 1#32) (Scalar.divsi d 128#32)) 128#32

theorem toInt_of_lt {d : BitVec 32} (h : d.toNat < 71680) : d.toInt = d.toNat := by
  rw [BitVec.toInt_eq_toNat_cond, if_pos (by omega)]

theorem fl_toNat {d : BitVec 32} (h : d.toNat < 71680) : (fl d).toNat = d.toNat / 128 * 128 := by
  have hi := toInt_of_lt h
  have hdiv : (Scalar.divsi d 128#32).toNat = d.toNat / 128 := by
    unfold Scalar.divsi IntOp.divsi
    rw [if_neg (by simp [IntOp.SDivCorner]), BitVec.sdiv_eq]
    have : d.msb = false := by rw [BitVec.msb_eq_false_iff_two_mul_lt]; omega
    rw [this, show (128#32).msb = false from by decide]
    show (d.udiv 128#32).toNat = _
    rw [BitVec.udiv_eq, BitVec.toNat_udiv]; rfl
  by_cases h0 : d = 0#32
  · subst h0; decide
  · have hp : 0 < d.toNat := by
      rcases Nat.eq_zero_or_pos d.toNat with e | e
      · exact absurd (BitVec.eq_of_toNat_eq (by simpa using e)) h0
      · exact e
    have e1 : Scalar.cmpi .sgt d 0#32 = 1#1 := by
      show BitVec.ofBool ((0#32).slt d) = 1#1
      rw [show (0#32).slt d = true from by rw [BitVec.slt_iff_toInt_lt, hi]; simpa using hp]; rfl
    have e2 : Scalar.cmpi .slt d 0#32 = 0#1 := by
      show BitVec.ofBool (d.slt 0#32) = 0#1
      rw [show d.slt 0#32 = false from by rw [Bool.eq_false_iff, ne_eq, BitVec.slt_iff_toInt_lt, hi]; simp]; rfl
    have e3 : ∀ c : BitVec 1, Scalar.andi (Scalar.cmpi .ne
      (Scalar.subi (Scalar.extui 1#1) (Scalar.extui 0#1))
      (Scalar.subi (Scalar.extui (Scalar.cmpi .sgt 128#32 0#32)) (Scalar.extui (Scalar.cmpi .slt 128#32 0#32)))) c = 0#1 := by decide
    unfold fl
    rw [e1, e2, e3]
    show ((Scalar.divsi d 128#32) * 128#32).toNat = _
    rw [BitVec.toNat_mul, hdiv]
    show d.toNat / 128 * 128 % 4294967296 = _
    omega

/-- The word's column within block `k`. -/
def dcol (k : Nat) (w : BitVec 32) : BitVec 32 := Scalar.subi w (Scalar.muli (BitVec.ofNat 32 k) 71680#32)

/-- The condition the word's column is in the block. -/
def inblk (d : BitVec 32) : BitVec 1 :=
  Scalar.cmpi .ne (Scalar.extui (Scalar.andi (Scalar.cmpi .sge d 0#32) (Scalar.cmpi .slt d 71680#32)) : BitVec 32) 0#32

theorem inblk_iff (d : BitVec 32) : inblk d = 1#1 ↔ d.toNat < 71680 := by
  have e0 : ∀ a b : Bool, (Scalar.cmpi .ne (Scalar.extui (Scalar.andi (BitVec.ofBool a) (BitVec.ofBool b)) : BitVec 32) 0#32 = 1#1)
      ↔ a = true ∧ b = true := by decide
  show (Scalar.cmpi .ne (Scalar.extui (Scalar.andi (BitVec.ofBool ((0#32).sle d)) (BitVec.ofBool (d.slt 71680#32))) : BitVec 32) 0#32 = 1#1) ↔ _
  rw [e0, BitVec.sle_iff_toInt_le, BitVec.slt_iff_toInt_lt, BitVec.toInt_eq_toNat_cond, BitVec.toInt_eq_toNat_cond, BitVec.toInt_eq_toNat_cond]
  have := d.isLt
  show (0 : Int) ≤ _ ∧ _ < (71680 : Int) ↔ _
  split <;> omega

theorem cond5_eq (i : grid0.Coords) (w : BitVec 32) : k0_cond5 i w = inblk (dcol (i 1).val w) := rfl
theorem off1_eq (i : grid0.Coords) (w : BitVec 32) : k0_off1 i w = ![0, (fl (dcol (i 1).val w)).toNat] := rfl
theorem mult1_eq (i : grid0.Coords) (w : BitVec 32) : k0_mult1 i w = fl (dcol (i 1).val w) := rfl

/-- The side condition of a word's facts holds of every word. -/
theorem chk (i : grid0.Coords) (w : BitVec 32) : k0_chk1 i w := by
  refine ⟨fun _ h => ?_, fun _ h => ?_⟩
  · have hd := (inblk_iff _).mp (cond5_eq i w ▸ h)
    rw [mult1_eq, fl_toNat hd]; exact ⟨_, Nat.mul_comm _ _⟩
  · have hd := (inblk_iff _).mp (cond5_eq i w ▸ h)
    rw [off1_eq, fl_toNat hd]
    intro a; fin_cases a
    · exact Nat.le_refl 32
    · show (dcol (i 1).val w).toNat / 128 * 128 + 128 ≤ 71680
      omega

/-- A block with the column `d` overwritten by `p`. -/
def setCol (d : BitVec 32) (p : F .f32) (o : S32x71680.Idx → Elt F .f32) : S32x71680.Idx → Elt F .f32 :=
  fun y => if (y 1).val = d.toNat then p else o y

/-- One word's region: what it leaves when the word names a column of the block, and the rest. -/
theorem Run.scat {a : Bufs} {A : Type} {i : grid0.Coords} {w : BitVec 32} {p : F .f32} {d : Decidable (k0_cond5 i w = 1#1)}
    {t : k0_cond5 i w = 1#1 → Prog (TpuEff nD τ sig (Elt F) Λ₀ .tc) A}
    {k : Prog (TpuEff nD τ sig (Elt F) Λ₀ .tc) A} {pv x o ix bv bi js v s'}
    (ht : k0_cond5 i w = 1#1 → Run a k ⟨pv, x, setCol (dcol (i 1).val w) p o, ix, bv, bi, js⟩ v s' → ∀ h, Run a (t h) ⟨pv, x, o, ix, bv, bi, js⟩ v s')
    (H : Run a k ⟨pv, x, setCol (dcol (i 1).val w) p o, ix, bv, bi, js⟩ v s') :
    Run a (dite (k0_cond5 i w = 1#1) t (fun _ => k)) ⟨pv, x, o, ix, bv, bi, js⟩ v s' := by
  by_cases hc : k0_cond5 i w = 1#1
  · rw [dif_pos hc]; exact ht hc H hc
  · rw [dif_neg hc]
    have : setCol (dcol (i 1).val w) p o = o := by
      funext y
      rw [setCol, if_neg]
      intro e
      refine hc ((cond5_eq i w).trans ((inblk_iff _).mpr ?_))
      have := (y 1).isLt
      exact e ▸ this
    rwa [this] at H

theorem lane_apply (j : S32x128.Idx) : lane j = BitVec.ofNat 32 (j 1).val := by
  show BitVec.ofNat 32 (0 * 128 + (j 1).val) = _
  rw [Nat.zero_mul, Nat.zero_add]

theorem pay_apply (i : grid0.Coords) (w : BitVec 32) (p : F .f32) (c : Vec F S32x128 .f32) (j : S32x128.Idx)
    (hd : (dcol (i 1).val w).toNat < 71680) :
    Gen.k0_pay2402 (BitVec.ofNat 32 (i 1).val) lane p w c j = if (j 1).val = (dcol (i 1).val w).toNat % 128 then p else c j := by
  have hfl := fl_toNat hd
  have hsub : (Scalar.subi (dcol (i 1).val w) (fl (dcol (i 1).val w))).toNat = (dcol (i 1).val w).toNat % 128 := by
    show (dcol (i 1).val w - fl (dcol (i 1).val w)).toNat = _
    rw [BitVec.toNat_sub, hfl]
    omega
  have hj : (j 1).val < 128 := (j 1).isLt
  show (if BitVec.ofBool (lane j == Scalar.subi (dcol (i 1).val w) (fl (dcol (i 1).val w))) = 1 then p else shapeCast S32x128 c Gen.shapeCasts_S32x128_S32x128 j) = _
  rw [shapeCast_self, lane_apply]
  have : (BitVec.ofBool (BitVec.ofNat 32 (j 1).val == Scalar.subi (dcol (i 1).val w) (fl (dcol (i 1).val w))) = 1) ↔ (j 1).val = (dcol (i 1).val w).toNat % 128 := by
    rw [← hsub, show (1 : BitVec 1) = BitVec.ofBool true from rfl, BitVec.ofBool_eq_iff_eq, beq_iff_eq, ← BitVec.toNat_inj, BitVec.toNat_ofNat,
      Nat.mod_eq_of_lt (by omega)]
  simp only [this]

/-- The region's store, of the slice just loaded. -/
theorem Run.stCol {a : Bufs} {A : Type} {i : grid0.Coords} {w : BitVec 32} {p : F .f32} {inb hx hm}
    {k : _ → Prog (TpuEff nD τ sig (Elt F) Λ₀ .tc) A} {pv x o ix bv bi js v s'}
    (hc : k0_cond5 i w = 1#1)
    (H : Run a (k ⟨⟩) ⟨pv, x, setCol (dcol (i 1).val w) p o, ix, bv, bi, js⟩ v s') :
    Run a (.op (.store a.a4 (Rect.unit (s := S32x71680) (k0_off1 i w) S32x128.size inb)
          (Gen.k0_pay2402 (BitVec.ofNat 32 (i 1).val) lane p w (get (Rect.unit (s := S32x71680) (k0_off1 i w) S32x128.size inb).toLoadRect o))
          Finset.univ hx hm) k) ⟨pv, x, o, ix, bv, bi, js⟩ v s' := by
  refine .st4 ?_
  have hd : (dcol (i 1).val w).toNat < 71680 := (inblk_iff _).mp ((cond5_eq i w).symm.trans hc)
  have hfl := fl_toNat hd
  have key : setCol (dcol (i 1).val w) p o = (Rect.unit (s := S32x71680) (k0_off1 i w) S32x128.size inb).overlay o
      (Gen.k0_pay2402 (BitVec.ofNat 32 (i 1).val) lane p w (get (Rect.unit (s := S32x71680) (k0_off1 i w) S32x128.size inb).toLoadRect o)) := by
    funext y
    by_cases hy : y ∈ (Rect.unit (s := S32x71680) (k0_off1 i w) S32x128.size inb).set
    · obtain ⟨j, rfl⟩ : ∃ j, (Rect.unit (s := S32x71680) (k0_off1 i w) S32x128.size inb).emb j = y :=
        LoadRect.exists_idx_of_mem _ hy
      rw [Rect.overlay_emb, setCol, pay_apply i w p _ j hd]
      have e1 : (((Rect.unit (s := S32x71680) (k0_off1 i w) S32x128.size inb).emb j) 1).val = (fl (dcol (i 1).val w)).toNat + 1 * (j 1).val := by
        rw [Rect.emb_apply]; rfl
      have hj : (j 1).val < 128 := (j 1).isLt
      have : (((Rect.unit (s := S32x71680) (k0_off1 i w) S32x128.size inb).emb j) 1).val = (dcol (i 1).val w).toNat ↔ (j 1).val = (dcol (i 1).val w).toNat % 128 := by
        rw [e1, hfl]; omega
      simp only [this]
      rfl
    · rw [Rect.overlay_of_not_mem _ _ _ hy, setCol, if_neg]
      intro e
      refine hy (Rect.mem_set_unit.mpr fun a => ?_)
      have e0 : k0_off1 i w = ![0, (fl (dcol (i 1).val w)).toNat] := off1_eq i w
      fin_cases a
      · have := (y 0).isLt
        exact ⟨Nat.zero_le _, (Nat.zero_add 32).symm ▸ this⟩
      · show (fl (dcol (i 1).val w)).toNat ≤ (y 1).val ∧ (y 1).val < (fl (dcol (i 1).val w)).toNat + 128
        rw [hfl]; omega
  exact key ▸ H

/-- The block after the table's first `n` words. -/
def cols (k : Nat) (p : F .f32) (js : S32.Idx → BitVec 32) : Nat → S32x71680.Idx → Elt F .f32
  | 0 => Gen.k0_pay2401
  | n + 1 => setCol (dcol k (jsAt js n)) p (cols k p js n)

set_option maxHeartbeats 0 in
/-- A point of the second sweep. -/
theorem run_write (i : grid0.Coords) (a : Bufs) (h2 h3 h4 h5 h6 h7 h8) (s : St F)
    (c1 : ¬ cond1 i = 1#1) (c2 : ¬ cond2 i = 1#1) (c3 : ¬ k0_cond3 i = 1#1) (c4 : k0_cond4 i = 1#1) :
    Run a (cc0__body (F := F) i a.a2 h2 a.a3 h3 a.a4 h4 a.a5 h5 a.a6 h6 a.a7 h7 a.a8 h8) s ⟨⟩
      { s with o := cols (i 1).val (s.pv (Shape.Idx.first (Gen.numel1_S1x1.symm ▸ Nat.one_pos))) s.js 32 } := by
  obtain ⟨pv, x, o, ix, bv, bi, js⟩ := s
  refine Run.dneg c1 ?_
  refine Run.dneg c2 ?_
  refine Run.dneg c3 ?_
  refine Run.dpos c4 ?_
  refine Run.bind (v := ?_) (s' := ?_) ?_ ?_
  rotate_left 2
  · refine .ld4 ?_
    refine Run.stO ?_
    refine Run.ldPv ?_
    repeat first
      | refine Run.ldJ ?_
      | refine Run.asm (chk i _) ?_
      | (refine Run.scat (p := pv (Shape.Idx.first (Gen.numel1_S1x1.symm ▸ Nat.one_pos))) ?_ ?_
         · intro hc H h; refine .ld4 ?_; refine .ld4 ?_; exact Run.stCol hc H)
    exact Run.ret
  iterate 6
    refine Run.bind (v := ?_) (s' := ?_) ?_ ?_
    rotate_left 2
    · repeat first
        | refine Run.ldJ ?_
        | refine Run.asm (chk i _) ?_
        | (refine Run.scat (p := pv (Shape.Idx.first (Gen.numel1_S1x1.symm ▸ Nat.one_pos))) ?_ ?_
           · intro hc H h; refine .ld4 ?_; refine .ld4 ?_; exact Run.stCol hc H)
      exact Run.ret
  repeat first
    | refine Run.ldJ ?_
    | refine Run.asm (chk i _) ?_
    | (refine Run.scat (p := pv (Shape.Idx.first (Gen.numel1_S1x1.symm ▸ Nat.one_pos))) ?_ ?_
       · intro hc H h; refine .ld4 ?_; refine .ld4 ?_; exact Run.stCol hc H)
  exact Run.ret

end Cert.KernelIdeal.Argmax

end
-- ==== Proof.Ideal.Seq.lean ====
/-
  What the body carries from point to point: the accumulators after each block of the first sweep, the rows' columns
  read off them, and the body's run at any point in these terms.
-/
module

public import proofs.«01_k».proof.Proof.Ideal.Pts
public import proofs.«01_k».proof.Proof.Ideal.Scan
public import proofs.«01_k».proof.Proof.Ideal.Tail
public import proofs.«01_k».proof.Proof.Ideal.Write

@[expose] public section

set_option maxRecDepth 65536

noncomputable section

namespace Cert.KernelIdeal.Argmax

open Idealize.ShloMosaic Idealize.ShloMosaic.TcCoe Idealize.SL.Sem

variable {F : FTy → Type} [FloatOps F]

/-- Where the element `y` of block `k` lies in the array. -/
def pos (k : Nat) (y : S32x71680.Idx) (h : 71680 * k + (y 1).val < 1000000) : S32x1000000.Idx := fun a =>
  match a with
  | ⟨0, _⟩ => y 0
  | ⟨1, _⟩ => ⟨71680 * k + (y 1).val, h⟩

/-- Block `k` of the array, the array's first element past its end. -/
def xb (L : S32x1000000.Idx → Elt F .f32) (k : Nat) : S32x71680.Idx → Elt F .f32 := fun y =>
  if h : 71680 * k + (y 1).val < 1000000 then L (pos k y h) else L (fun a => ⟨0, by fin_cases a <;> decide⟩)

/-- A buffer holds block `k` on the columns inside the array. -/
def Agree (L : S32x1000000.Idx → Elt F .f32) (k : Nat) (x : S32x71680.Idx → Elt F .f32) : Prop :=
  ∀ y, (h : 71680 * k + (y 1).val < 1000000) → x y = L (pos k y h)

theorem Agree.eq {L : S32x1000000.Idx → Elt F .f32} {k : Nat} {x : S32x71680.Idx → Elt F .f32} (h : Agree L k x) (hk : k < 13) : x = xb L k := by
  funext y
  have hy : (y 1).val < 71680 := (y 1).isLt
  have h' : 71680 * k + (y 1).val < 1000000 := by omega
  rw [h y h', xb, dif_pos h']

/-- The accumulators after block `n`. -/
def bvAt (L : S32x1000000.Idx → Elt F .f32) : Nat → Vec F S32x128 .f32
  | 0 => foldV (sl0 (xb L 0)) 139 139 Gen.k0_pay1
  | n + 1 => if n = 12 then foldV (sl1 (xb L 13)) 133 130 (bvAt L n) else foldV (sl0 (xb L (n + 1))) 139 139 (bvAt L n)

def biAt (L : S32x1000000.Idx → Elt F .f32) : Nat → IVec S32x128 32
  | 0 => foldI 0 (sl0 (xb L 0)) 139 139 Gen.k0_pay1 Gen.k0_pay2
  | n + 1 => if n = 12 then foldI 13 (sl1 (xb L 13)) 133 130 (bvAt L n) (biAt L n)
      else foldI (n + 1) (sl0 (xb L (n + 1))) 139 139 (bvAt L n) (biAt L n)

theorem bvAt_step (L : S32x1000000.Idx → Elt F .f32) {n : Nat} (h : n ≠ 12) : bvAt L (n + 1) = foldV (sl0 (xb L (n + 1))) 139 139 (bvAt L n) :=
  if_neg h
theorem biAt_step (L : S32x1000000.Idx → Elt F .f32) {n : Nat} (h : n ≠ 12) :
    biAt L (n + 1) = foldI (n + 1) (sl0 (xb L (n + 1))) 139 139 (bvAt L n) (biAt L n) := if_neg h

/-- Each row's column. -/
def IX (L : S32x1000000.Idx → Elt F .f32) : IVec S32x1 32 := Gen.k0_pay2365 (bvAt L 13) (biAt L 13)

/-- The same in scalar memory. -/
def JS (L : S32x1000000.Idx → Elt F .f32) : S32.Idx → BitVec 32 := fun j => jw (IX L) (j 0).val

theorem jsUp_eq (ix : IVec S32x1 32) (js : S32.Idx → BitVec 32) : ∀ n j, jsUp ix js n j = if (j 0).val < n then jw ix (j 0).val else js j
  | 0, j => rfl
  | n + 1, j => by
    show (if (j 0).val = n then jw ix n else jsUp ix js n j) = _
    rw [jsUp_eq ix js n j]
    generalize jw ix = f
    by_cases h : (j 0).val = n
    · rw [if_pos h, if_pos (by omega), h]
    · rw [if_neg h]
      by_cases h' : (j 0).val < n
      · rw [if_pos h', if_pos (by omega)]
      · rw [if_neg h', if_neg (by omega)]

theorem jsUp_all (L : S32x1000000.Idx → Elt F .f32) (js : S32.Idx → BitVec 32) : jsUp (IX L) js 32 = JS L := by
  funext j
  rw [jsUp_eq, if_pos (show (j 0).val < 32 from (j 0).isLt)]; rfl

/-! The accumulators depend on the columns inside the array only. -/

theorem accV_congr {sl sl' : Nat → Vec F S32x128 .f32} (lo : Nat) : ∀ n, (∀ k, k ≤ lo + n → sl k = sl' k) → accV sl lo n = accV sl' lo n
  | 0, h => h lo (Nat.le_refl _)
  | n + 1, h => by
    unfold accV
    rw [accV_congr lo n fun k hk => h k (by omega), h (lo + n + 1) (by omega)]

theorem accI_congr {sl sl' : Nat → Vec F S32x128 .f32} (lo : Nat) : ∀ n, (∀ k, k ≤ lo + n → sl k = sl' k) → accI sl lo n = accI sl' lo n
  | 0, h => rfl
  | n + 1, h => by
    unfold accI
    rw [accV_congr lo n fun k hk => h k (by omega), h (lo + n + 1) (by omega), accI_congr lo n fun k hk => h k (by omega)]

theorem blockV_congr {sl sl' : Nat → Vec F S32x128 .f32} (h : ∀ k, k ≤ 532 → sl k = sl' k) : blockV sl 133 130 = blockV sl' 133 130 := by
  unfold blockV
  rw [accV_congr 0 133 fun k hk => h k (by omega), accV_congr (133 + 1) 133 fun k hk => h k (by omega),
    accV_congr (2 * (133 + 1)) 133 fun k hk => h k (by omega), accV_congr (3 * (133 + 1)) 130 fun k hk => h k (by omega)]

theorem blockI_congr {sl sl' : Nat → Vec F S32x128 .f32} (h : ∀ k, k ≤ 532 → sl k = sl' k) : blockI sl 133 130 = blockI sl' 133 130 := by
  unfold blockI
  rw [accV_congr 0 133 fun k hk => h k (by omega), accV_congr (133 + 1) 133 fun k hk => h k (by omega),
    accV_congr (2 * (133 + 1)) 133 fun k hk => h k (by omega), accV_congr (3 * (133 + 1)) 130 fun k hk => h k (by omega),
    accI_congr 0 133 fun k hk => h k (by omega), accI_congr (133 + 1) 133 fun k hk => h k (by omega),
    accI_congr (2 * (133 + 1)) 133 fun k hk => h k (by omega), accI_congr (3 * (133 + 1)) 130 fun k hk => h k (by omega)]

/-- A lane of a slice. -/
theorem slice_apply (x : S32x71680.Idx → Elt F .f32) {m : Nat} (hm : m + 128 ≤ 71680) (j : S32x128.Idx) :
    slice x m j = x (fun a => match a with | ⟨0, _⟩ => j 0 | ⟨1, _⟩ => ⟨m + (j 1).val, by have : (j 1).val < 128 := (j 1).isLt; show _ < 71680; omega⟩) := by
  unfold slice
  rw [dif_pos hm]
  congr 1
  funext a
  apply Fin.ext
  fin_cases a
  · show 0 + 1 * (j 0).val = _; simp
  · show m + 1 * (j 1).val = _; simp

/-- The mask keeps the lanes below 64. -/
theorem mask_apply (v : Vec F S32x128 .f32) (j : S32x128.Idx) :
    Gen.k0_pay2352 lane v j = if (j 1).val < 64 then v j else Scalar.ofBits .f32 0xFF800000#32 := by
  show Scalar.select (Scalar.cmpi .slt (lane j) 64#32) (v j) _ = _
  rw [lane_apply]
  have h1 : (j 1).val < 128 := (j 1).isLt
  generalize (j 1).val = n at h1 ⊢
  have : Scalar.cmpi .slt (BitVec.ofNat 32 n) 64#32 = if n < 64 then 1#1 else 0#1 := by
    revert h1; revert n; decide +kernel
  rw [this]
  split <;> rfl

theorem sl1_congr {L : S32x1000000.Idx → Elt F .f32} {x : S32x71680.Idx → Elt F .f32} (h : Agree L 13 x) (n : Nat) (hn : n ≤ 532) :
    sl1 x n = sl1 (xb L 13) n := by
  have key : ∀ y : S32x71680.Idx, (y 1).val < 68160 → x y = xb L 13 y := fun y hy => by
    have h' : 71680 * 13 + (y 1).val < 1000000 := by omega
    rw [h y h', xb, dif_pos h']
  funext j
  have hj : (j 1).val < 128 := (j 1).isLt
  unfold sl1
  by_cases e : n = 532
  · rw [show Nat.beq n 532 = true from by rw [e]; rfl]
    show Gen.k0_pay2352 _ _ j = Gen.k0_pay2352 _ _ j
    rw [mask_apply, mask_apply]
    split
    · rw [slice_apply _ (by omega), slice_apply _ (by omega)]
      exact key _ (by show 128 * n + (j 1).val < _; omega)
    · rfl
  · rw [show Nat.beq n 532 = false from Bool.eq_false_iff.mpr fun h => e (Nat.eq_of_beq_eq_true h)]
    show slice _ _ j = slice _ _ j
    rw [slice_apply _ (by omega), slice_apply _ (by omega)]
    exact key _ (by show 128 * n + (j 1).val < _; omega)

theorem foldV_congr {L : S32x1000000.Idx → Elt F .f32} {x : S32x71680.Idx → Elt F .f32} (h : Agree L 13 x) (bv) :
    foldV (sl1 x) 133 130 bv = foldV (sl1 (xb L 13)) 133 130 bv := by
  unfold foldV; rw [blockV_congr (sl1_congr h)]
theorem foldI_congr {L : S32x1000000.Idx → Elt F .f32} {x : S32x71680.Idx → Elt F .f32} (h : Agree L 13 x) (k bv bi) :
    foldI k (sl1 x) 133 130 bv bi = foldI k (sl1 (xb L 13)) 133 130 bv bi := by
  unfold foldI; rw [blockV_congr (sl1_congr h), blockI_congr (sl1_congr h)]

/-! ## The run at any point -/

/-- What the scratch buffers hold before point `n`. -/
def Inv (L : S32x1000000.Idx → Elt F .f32) (n : Nat) (bv : S32x128.Idx → Elt F .f32) (bi : S32x128.Idx → Elt F .i32) (js : S32.Idx → Elt F .i32) : Prop :=
  (1 ≤ n → bv = bvAt L (min n 14 - 1) ∧ bi = biAt L (min n 14 - 1)) ∧ (14 ≤ n → js = JS L)

/-- The seven buffers of point `t`. -/
def bufs (t : Fin cfg0.N) : Bufs :=
  ⟨win0_0.stage (cfg0.slots t 0), win0_1.stage (cfg0.slots t 1), win0_2.stage (cfg0.slots t 2), win0_3.stage (cfg0.slots t 3),
    Memref.whole cc0_scratch0, Memref.whole cc0_scratch1, Memref.whole cc0_scratch2⟩

/-- The first result's block `k`: ones, and `p` in the rows' columns. -/
def outB (L : S32x1000000.Idx → Elt F .f32) (pv : S1x1.Idx → Elt F .f32) (k : Nat) : S32x71680.Idx → Elt F .f32 :=
  cols k (pv (Shape.Idx.first (Gen.numel1_S1x1.symm ▸ Nat.one_pos))) (JS L) 32

set_option maxHeartbeats 1000000 in
theorem run_body (L : S32x1000000.Idx → Elt F .f32) (t : Fin cfg0.N) (s : St F) (hx : t.val < 14 → Agree L t.val s.x)
    (hi : Inv L t.val s.bv s.bi s.js) :
    ∃ s' : St F, Run (bufs t) (Gen.bodyAt0 t) s ⟨⟩ s' ∧ s'.pv = s.pv ∧ s'.x = s.x ∧ (t.val < 14 → s'.o = s.o)
      ∧ (14 ≤ t.val → s'.o = outB L s.pv (t.val % 14)) ∧ (t.val ≠ 13 → s'.ix = s.ix) ∧ (t.val = 13 → s'.ix = IX L)
      ∧ Inv L (t.val + 1) s'.bv s'.bi s'.js := by
  have k1 := coord1 t
  have d1 := c1_iff t; have d2 := c2_iff t; have d3 := c3_iff t; have d4 := c4_iff t
  have hN : t.val < 28 := t.isLt
  obtain ⟨hi1, hi2⟩ := hi
  by_cases h0 : t.val = 0
  · have hx' := (hx (by omega)).eq (by omega)
    refine ⟨_, run_first (grid0.coords t) (bufs t) _ _ _ _ _ _ _ s (d1.mpr h0) (d2.mpr (by omega)) (mt d3.mp (by omega)) (mt d4.mp (by omega)),
      rfl, rfl, fun _ => rfl, fun h => by omega, fun _ => rfl, fun h => by omega, fun _ => ?_, fun h => by omega⟩
    rw [k1, hx', h0]
    exact ⟨rfl, rfl⟩
  by_cases h1 : t.val < 13
  · have hx' := (hx (by omega)).eq (by omega)
    obtain ⟨hb, hbi⟩ := hi1 (by omega)
    refine ⟨_, run_mid (grid0.coords t) (bufs t) _ _ _ _ _ _ _ s (mt d1.mp h0) (d2.mpr h1) (mt d3.mp (by omega)) (mt d4.mp (by omega)),
      rfl, rfl, fun _ => rfl, fun h => by omega, fun _ => rfl, fun h => by omega, fun _ => ?_, fun h => by omega⟩
    obtain ⟨n, hn⟩ : ∃ n, t.val = n + 1 := ⟨t.val - 1, by omega⟩
    show foldV (sl0 s.x) 139 139 s.bv = _ ∧ foldI _ (sl0 s.x) 139 139 s.bv s.bi = _
    rw [k1, hx', hb, hbi, hn, show min (n + 1 + 1) 14 - 1 = n + 1 from by omega, show min (n + 1) 14 - 1 = n from by omega,
      show (n + 1) % 14 = n + 1 from by omega]
    exact ⟨(bvAt_step L (by omega)).symm, (biAt_step L (by omega)).symm⟩
  by_cases h2 : t.val = 13
  · have hx' := hx (by omega)
    obtain ⟨hb, hbi⟩ := hi1 (by omega)
    rw [h2] at hx' hb hbi k1
    have e1 : foldV (sl1 s.x) 133 130 s.bv = bvAt L 13 := by rw [foldV_congr hx', hb]; rfl
    have e2 : foldI ((grid0.coords t) 1).val (sl1 s.x) 133 130 s.bv s.bi = biAt L 13 := by rw [k1, foldI_congr hx', hb, hbi]; rfl
    refine ⟨_, run_tail (grid0.coords t) (bufs t) _ _ _ _ _ _ _ s (mt d1.mp h0) (mt d2.mp h1) (d3.mpr h2) (mt d4.mp (by omega)),
      rfl, rfl, fun _ => rfl, fun h => by omega, fun h => by omega, fun _ => ?_, fun _ => ?_, fun _ => ?_⟩
    · show Gen.k0_pay2365 _ _ = _
      rw [e1, e2]; rfl
    · rw [h2]; exact ⟨e1, e2⟩
    · show jsUp (Gen.k0_pay2365 _ _) s.js 32 = _
      rw [e1, e2]; exact jsUp_all L s.js
  · have hj := hi2 (by omega)
    obtain ⟨hb, hbi⟩ := hi1 (by omega)
    refine ⟨_, run_write (grid0.coords t) (bufs t) _ _ _ _ _ _ _ s (mt d1.mp h0) (mt d2.mp h1) (mt d3.mp h2) (d4.mpr (by omega)),
      rfl, rfl, fun h => by omega, fun _ => ?_, fun _ => rfl, fun h => by omega, fun _ => ?_, fun _ => hj⟩
    · show cols _ _ s.js 32 = _
      rw [k1, hj]; rfl
    · rw [show min (t.val + 1) 14 = min t.val 14 from by omega]; exact ⟨hb, hbi⟩

end Cert.KernelIdeal.Argmax

end
-- ==== Proof.Ideal.Data.lean ====
/-
  The proof data of the pipeline: what the staging buffers and the scratch buffers hold at each point, and the body's
  obligation.
-/
module

public import proofs.«01_k».proof.Proof.Ideal.Seq

@[expose] public section

set_option maxRecDepth 65536

noncomputable section

namespace Cert.KernelIdeal.Argmax

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ)

/-- The array of logits as the region finds it. -/
abbrev logits (c : Dev nD) : S32x1000000.Idx → Elt F .f32 := Gen.V m c main_arg1

/-- What the scratch buffers hold before point `n`, and the core's random number register at anything. -/
def Phi (c : Dev nD) (n : Nat) : sProp 𝕄 :=
  iprop(∃ bv : S32x128.Idx → Elt F .f32, ∃ bi : S32x128.Idx → Elt F .i32, ∃ js : S32.Idx → Elt F .i32, ⌜Inv (logits m c) n bv bi js⌝
    ∗ owns (c : Thread nD τ) (Memref.whole cc0_scratch0) fullShare bv
    ∗ owns (c : Thread nD τ) (Memref.whole cc0_scratch1) fullShare bi
    ∗ owns (c : Thread nD τ) (Memref.whole cc0_scratch2) fullShare js
    ∗ ∃ r, prngReg (c : Dev nD) r)

def dats (_ : Fin 1) (c : Dev nD) : Dat τ (Elt F) Unit ℕ (UR sig nD τ) ℕ cfg0 c where
  A w := Gen.V m c (Pipeline.arrRef spec0 w)
  after w t := match w with
    | ⟨0, _⟩ => Gen.iblk m c 0 t
    | ⟨1, _⟩ => win0_1.fill (grid0.coords t) (fun _ => Scalar.ofBits .f32 0#32) (Gen.iblk m c 1 t)
    | ⟨2, _⟩ => outB (logits m c) (Gen.iblk m c 0 t) (t.val % 14)
    | ⟨3, _⟩ => IX (logits m c)
  Φ t := Phi m c t.val
  q _ := fullShare
  owed _ := 0

abbrev 𝒱₀ : Variants := Variants.none

theorem defs₀_row (t : Fin cfg0.N) : defs₀ (F := F) .tc cfg0.body (cfg0.bodyArgs t (cfg0.slots t)) = Gen.bodyAt0 t := by
  unfold defs₀; rw [Defs.onTc_tc]

/-! What the body finds. -/

theorem before0 (c : Dev nD) (t : Fin cfg0.N) (d) : (dats m 0 c).before 0 t d = Gen.iblk m c 0 t :=
  Gen.before0_0_of m (dats m 0 c) rfl (fun _ => rfl) t d

theorem clip_congr1 : ∀ t t' : Fin cfg0.N, (cfg0.win 1).index t = (cfg0.win 1).index t' →
    (cfg0.win 1).clip (cfg0.grid.coords t) = (cfg0.win 1).clip (cfg0.grid.coords t') := by decide +kernel

theorem before1 (c : Dev nD) (t : Fin cfg0.N) (d) :
    (dats m 0 c).before 1 t d = win0_1.fill (grid0.coords t) d (Gen.iblk m c 1 t) :=
  (dats m 0 c).before_in_eq_fetched 1 rfl (fun _ => rfl) clip_congr1 (fun t => win0_1.cut_fill _ _ _) t d

/-- The buffer of logits holds the point's block on the columns inside the array. -/
theorem agree (c : Dev nD) (t : Fin cfg0.N) (ht : t.val < 14) (d) : Agree (logits m c) t.val ((dats m 0 c).before 1 t d) := by
  rw [before1]
  intro y hy
  have h0 : (y 0).val < 32 := (y 0).isLt
  have h1 : (y 1).val < 71680 := (y 1).isLt
  have hm : ∀ a, (y a).val < win0_1.xsize (grid0.coords t) a := fun a => by
    match a with
    | ⟨0, _⟩ => show (y 0).val < win0_1.xsize (grid0.coords t) 0; rw [xsize1']; exact h0
    | ⟨1, _⟩ => show (y 1).val < win0_1.xsize (grid0.coords t) 1; rw [xsize1]; split <;> omega
  unfold Window.fill
  rw [dif_pos ((win0_1.moved_iff _ y).mpr hm)]
  show Gen.V m c main_arg1 ((win0_1.rect t).emb _) = _
  congr 1
  funext a
  apply Fin.ext
  rw [Rect.emb_apply]
  match a with
  | ⟨0, _⟩ =>
    show win0_1.index t 0 * 32 + 1 * (y 0).val = (y 0).val
    rw [index1]; simp
  | ⟨1, _⟩ =>
    show win0_1.index t 1 * 71680 + 1 * (y 1).val = 71680 * t.val + (y 1).val
    rw [index1, if_pos ht]; simp; omega

theorem before3 (c : Dev nD) : ∀ n (h : 14 + n < 28) (d), (dats m 0 c).before 3 (⟨14 + n, h⟩ : Fin cfg0.N) d = IX (logits m c)
  | 0, h, d => by
    rw [(dats m 0 c).before_of_pos 3 ⟨14 + 0, h⟩ (by show 14 + 0 ≠ 0; omega) rfl, flush3]
    rw [if_neg (by show ¬ decide (14 + 0 - 1 = 27) = true; simp)]
    unfold Dat.left
    rw [idle3]
    rfl
  | n + 1, h, d => by
    rw [(dats m 0 c).before_of_pos 3 ⟨14 + (n + 1), h⟩ (by show 14 + (n + 1) ≠ 0; omega) rfl, flush3]
    rw [if_neg (by show ¬ decide (14 + (n + 1) - 1 = 27) = true; rw [decide_eq_true_iff]; omega)]
    unfold Dat.left
    rw [idle3, show decide ((14 + (n + 1) - 1 : Nat) ≠ 13) = true from decide_eq_true (by omega)]
    exact before3 c n (by omega) d

theorem before3' (c : Dev nD) (t : Fin cfg0.N) (ht : 14 ≤ t.val) (d) : (dats m 0 c).before 3 t d = IX (logits m c) := by
  obtain ⟨n, hn⟩ := t
  obtain ⟨k, rfl⟩ : ∃ k, n = 14 + k := ⟨n - 14, by simp at ht; omega⟩
  exact before3 m c k hn d

/-! What it leaves. -/

theorem leave0 (c : Dev nD) (t : Fin cfg0.N) (X d) (h : X = (dats m 0 c).before 0 t d) :
    owns (c : Thread nD τ) ((cfg0.win 0).stage (cfg0.slots t 0)) fullShare X ⊢ ((dats m 0 c).leaves 0 t : sProp 𝕄) := by
  rw [h, before0]; exact .rfl

theorem leave1 (c : Dev nD) (t : Fin cfg0.N) (X d) (h : X = (dats m 0 c).before 1 t d) :
    owns (c : Thread nD τ) ((cfg0.win 1).stage (cfg0.slots t 1)) fullShare X ⊢ ((dats m 0 c).leaves 1 t : sProp 𝕄) := by
  rw [h, before1]
  have e : win0_1.cut (grid0.coords t) ((dats m 0 c).after 1 t) = Gen.iblk m c 1 t := win0_1.cut_fill _ _ _
  rw [← e]
  iintro H
  iexists d
  iexact H

theorem leave2 (c : Dev nD) (t : Fin cfg0.N) (X d) (h1 : t.val < 14 → X = (dats m 0 c).before 2 t d)
    (h2 : 14 ≤ t.val → X = (dats m 0 c).after 2 t) :
    owns (c : Thread nD τ) ((cfg0.win 2).stage (cfg0.slots t 2)) fullShare X ⊢ ((dats m 0 c).leaves 2 t : sProp 𝕄) := by
  refine BIBase.Entails.trans ?_ ((dats m 0 c).leaves_intro 2 t)
  unfold Dat.leavesExact
  rw [idle2, flush2]
  by_cases h : t.val < 14
  · rw [decide_eq_true h, decide_eq_false (by omega), h1 h]
    iintro H; iexists d; iexact H
  · rw [decide_eq_false h, h2 (by omega)]

theorem leave3 (c : Dev nD) (t : Fin cfg0.N) (X d) (h1 : t.val ≠ 13 → X = (dats m 0 c).before 3 t d)
    (h2 : t.val = 13 → X = IX (logits m c)) :
    owns (c : Thread nD τ) ((cfg0.win 3).stage (cfg0.slots t 3)) fullShare X ⊢ ((dats m 0 c).leaves 3 t : sProp 𝕄) := by
  refine BIBase.Entails.trans ?_ ((dats m 0 c).leaves_intro 3 t)
  unfold Dat.leavesExact
  rw [idle3, flush3]
  by_cases h : t.val = 13
  · rw [decide_eq_false (by omega), h2 h]; exact .rfl
  · rw [decide_eq_true h]
    by_cases h' : t.val = 27
    · rw [decide_eq_true h', h1 h, before3' m c t (by omega) d]; exact .rfl
    · rw [decide_eq_false h', h1 h]
      iintro H; iexists d; iexact H

theorem body_obligation (c : Dev nD) : BodyObligationLoose (dats m 0 c) (defs₀ (F := F)) 𝒱₀ () Set.univ := fun t => by
  rw [Gen.bigSep_W0, Gen.bigSep_W0, defs₀_row]
  simp only
  change _ ⊢ wp _ _ _ _ fun _ => iprop(Phi m c (t.val + 1) ∗ (dats m 0 c).owesAt () t.castSucc ∗ (dats m 0 c).leaves 0 t ∗ (dats m 0 c).leaves 1 t
    ∗ (dats m 0 c).leaves 2 t ∗ (dats m 0 c).leaves 3 t)
  show iprop(Phi m c t.val ∗ _) ⊢ _
  unfold Phi
  iintro ⟨⟨%bv, %bi, %js, %hinv, Hv, Hi, Hj, Hr⟩, Ho, ⟨%d0, H0⟩, ⟨%d1, H1⟩, ⟨%d2, H2⟩, ⟨%d3, H3⟩⟩
  obtain ⟨s', hrun, e1, e2, e3, e4, e5, e6, hinv'⟩ := run_body (logits m c) t
    ⟨(dats m 0 c).before 0 t d0, (dats m 0 c).before 1 t d1, (dats m 0 c).before 2 t d2, (dats m 0 c).before 3 t d3, bv, bi, js⟩
    (fun h => agree m c t h d1) hinv
  iapply (hrun.sound 𝒱₀ c)
  isplitl [Hv Hi Hj H0 H1 H2 H3]
  · unfold Own
    isplitl [H0]; · iexact H0
    isplitl [H1]; · iexact H1
    isplitl [H2]; · iexact H2
    isplitl [H3]; · iexact H3
    isplitl [Hv]; · iexact Hv
    isplitl [Hi]; · iexact Hi
    iexact Hj
  dsimp only at e1 e2 e3 e4 e5
  iintro Hown
  unfold Own
  icases Hown with ⟨H0, H1, H2, H3, Hv, Hi, Hj⟩
  isplitl [Hv Hi Hj Hr]
  · iexists s'.bv; iexists s'.bi; iexists s'.js
    isplitr; · ipureintro; exact hinv'
    isplitl [Hv]; · iexact Hv
    isplitl [Hi]; · iexact Hi
    isplitl [Hj]; · iexact Hj
    iexact Hr
  isplitl [Ho]; · iexact Ho
  isplitl [H0]
  · iapply (leave0 m c t s'.pv d0 e1); iexact H0
  isplitl [H1]
  · iapply (leave1 m c t s'.x d1 e2); iexact H1
  isplitl [H2]
  · iapply (leave2 m c t s'.o d2 e3 (fun h => by rw [e4 h, before0]; rfl)); iexact H2
  · iapply (leave3 m c t s'.ix d3 e5 e6); iexact H3

end Cert.KernelIdeal.Argmax

end
-- ==== Proof.Ideal.Run.lean ====
/-
  The launch: every run of the program ends, its arguments as they were, its two results as the body left them, and
  every semaphore counter at zero.
-/
module

public import proofs.«01_k».proof.Proof.Ideal.Data

@[expose] public section

set_option maxRecDepth 65536

noncomputable section

namespace Cert.KernelIdeal.Argmax

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem phi_in (c : Dev nD) : Pipeline.ΦA spec0 c ⊢ ((dats m 0 c).Φ 0 : sProp 𝕄) := by
  show _ ⊢ Phi m c 0
  unfold Pipeline.ΦA Phi
  rw [Gen.scopedRest0_eq]
  simp only [owns_whole_eq]
  iintro ⟨⟨⟨%f, Hf⟩, ⟨%g, Hg⟩, ⟨%h, Hh⟩⟩, Hr⟩
  iexists f; iexists g; iexists h
  isplitr
  · ipureintro; exact ⟨fun h => absurd h (by omega), fun h => absurd h (by omega)⟩
  isplitl [Hf]
  · iexists f; isplitr; · ipureintro; rfl
    iexact Hf
  isplitl [Hg]
  · iexists g; isplitr; · ipureintro; rfl
    iexact Hg
  isplitl [Hh]
  · iexists h; isplitr; · ipureintro; rfl
    iexact Hh
  iexact Hr

theorem phi_out (c : Dev nD) : ((dats m 0 c).Φ (Fin.last cfg0.N) : sProp 𝕄) ⊢ Pipeline.ΦA spec0 c := by
  show Phi m c cfg0.N ⊢ _
  unfold Pipeline.ΦA Phi
  rw [Gen.scopedRest0_eq]
  simp only [owns_whole_eq]
  iintro ⟨%bv, %bi, %js, -, ⟨%f, -, Hf⟩, ⟨%g, -, Hg⟩, ⟨%h, -, Hh⟩, Hr⟩
  isplitr [Hr]
  · isplitl [Hf]; · iexists f; iexact Hf
    isplitl [Hg]; · iexists g; iexact Hg
    iexists h; iexact Hh
  · iexact Hr

/-- The final contents of the arguments and the results. -/
def Final (r : PUnit × MemSt nD τ sig (Elt F)) : Prop :=
  (∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_v1_0) = (dats m 0 c).arrAt 2 cfg0.N
    ∧ r.2.mem ((c : Thread nD τ).loc main_v1_1) = (dats m 0 c).arrAt 3 cfg0.N)
  ∧ r.2.sem = fun _ => 0

set_option backward.isDefEq.respectTransparency.types false in
theorem run : θ_run defs (onTc (τ := τ) (main (F := F))) ⟨m, fun _ => 0, ρ⟩ (Final m) :=
  Pipeline.θ_run_frame_track cfgs (dats m) (0 : Fin 1) Gen.launch0 defs₀ 𝒱₀ m ρ main (body_obligation m)
    (fun c => (dats m 0 c).share_full fun _ => rfl) (fun _ _ => rfl) (Gen.V m) (Gen.hmain m 𝒱₀) (fun _ _ => rfl)
    (phi_in m) (phi_out m) (Q' := Final m) (hQ' := fun r ⟨h, hz⟩ => ⟨fun c =>
      ⟨((h c).2 main_arg0 (Pipeline.mem_restRefs_of main_arg0 (by decide) (by decide))).trans (Gen.V_main_arg0 m c),
        ((h c).1 1).trans (((dats m 0 c).arrAt_in 1 rfl _).trans (Gen.V_main_arg1 m c)),
        ((h c).2 main_arg2 (Pipeline.mem_restRefs_of main_arg2 (by decide) (by decide))).trans (Gen.V_main_arg2 m c),
        (h c).1 2, (h c).1 3⟩, hz⟩)

end Cert.KernelIdeal.Argmax

end
-- ==== Proof.Ref.lean ====
/-
  The run of the reference program: @main is a straight line of StableHLO operations and no kernel, so its run is the
  library's `StableHlo.run_seq`. Every buffer ends at the fold of the operations over the launch contents. What the two
  result buffers hold is stated over the argument contents (`index`, `written`), and the three arguments keep theirs.
-/
module

public import proofs.«01_k».proof.Proof.Gen.ReferenceIdeal
public import Idealize.ShloMosaic.Lib.StableHlo.Run
public import Idealize.ShloMosaic.Lib.Quiescent

@[expose] public section

set_option maxRecDepth 65536

noncomputable section

namespace Cert.ReferenceIdeal.Argmax

open Cert.ReferenceIdeal Cert.ReferenceIdeal.Gen
open Idealize.ShloMosaic Idealize.ShloMosaic.TcCoe Idealize.ShloMosaic.StableHlo Idealize.SL.Sem

variable {F : FTy → Type} [FloatOps F]

/-- @main's operations, in order, the call's among them. -/
abbrev ops : List (HloOp τ sig (Elt F)) :=
  [ binary main_arg1 main_arg0 main_v0 mulf,
    TRef.nullary main_call0.v0 (iotaInDim S32x1000000 32 1),
    TRef.nullary main_call0.cst (constant S_ .f32 0xFF800000#32),
    TRef.nullary main_call0.c (constantI S_ 32 0#32),
    TRef.quaternary (.of main_v0) main_call0.v0 main_call0.cst main_call0.c main_call0.v1_0
      (fun x y u v j => (Host.argReduce reducer_argmax_f32_i32 x y u v reducesTo_S32x1000000_S32_d1 h_S_ j).1),
    TRef.quaternary (.of main_v0) main_call0.v0 main_call0.cst main_call0.c main_call0.v1_1
      (fun x y u v j => (Host.argReduce reducer_argmax_f32_i32 x y u v reducesTo_S32x1000000_S32_d1 h_S_ j).2),
    unary main_v1 main_v2 (broadcastInDim S32x1 ![0] bcast_S32_S32x1_0),
    reshape main_v2 main_v3 rfl shapeCasts_S32x1_S32,
    nullary main_c (constantI S_ 32 0#32),
    unary main_c main_v4 (broadcastInDim S32 ![] bcast_S_S32),
    binary main_v3 main_v4 main_v5 (cmpi .slt),
    nullary main_c_0 (constantI S_ 32 1000000#32),
    unary main_c_0 main_v6 (broadcastInDim S32 ![] bcast_S_S32),
    binary main_v3 main_v6 main_v7 addi,
    ternary main_v5 main_v7 main_v3 main_v8 select,
    unary main_v8 main_v9 (broadcastInDim S32x1 ![0] bcast_S32_S32x1_0),
    unary main_arg2 main_v10 (broadcastInDim S32x32 ![] bcast_S_S32x32),
    ternary main_arg0 main_v9 main_v10 main_v11
      (fun x i u => Host.scatter scatter_S32x1000000_S32x1_S32x32_0_1_1_1 (fun _ b => b) x i u) ]

/-- @main is that straight line. -/
theorem main_eq (c : Dev nD) : main (F := F) c = seq ops := rfl

/-- Each row's greatest product and the column it is at: the reference's reduction over the columns of the logits times
    the penalties, paired with the columns' numbers. -/
def pairs (x p : FVec F S32x1000000 .f32) : S32.Idx → F .f32 × BitVec 32 :=
  Host.argReduce reducer_argmax_f32_i32 (mulf x p : FVec F S32x1000000 .f32) (iotaInDim S32x1000000 32 1 : IVec S32x1000000 32)
    (constant S_ .f32 0xFF800000#32 : FVec F S_ .f32) (constantI S_ 32 0#32 : IVec S_ 32) reducesTo_S32x1000000_S32_d1 h_S_

theorem pairs_eq (x p : FVec F S32x1000000 .f32) : pairs x p =
  Host.argReduce reducer_argmax_f32_i32 (mulf x p : FVec F S32x1000000 .f32) (iotaInDim S32x1000000 32 1 : IVec S32x1000000 32)
    (constant S_ .f32 0xFF800000#32 : FVec F S_ .f32) (constantI S_ 32 0#32 : IVec S_ 32) reducesTo_S32x1000000_S32_d1 h_S_ := rfl

/-- The columns of such pairs. -/
def columns (g : S32.Idx → F .f32 × BitVec 32) : IVec S32 32 := fun j => (g j).2

theorem columns_of {g : S32.Idx → F .f32 × BitVec 32} {j : S32.Idx} {v : F .f32} {w : BitVec 32} (h : g j = (v, w)) : columns g j = w := by
  unfold columns; rw [h]

/-- The columns. -/
def best (x p : FVec F S32x1000000 .f32) : IVec S32 32 := columns (pairs x p)

/-- That column, as the (32, 1) result. -/
abbrev index (x p : FVec F S32x1000000 .f32) : IVec S32x1 32 := broadcastInDim S32x1 ![0] bcast_S32_S32x1_0 (best x p)

/-- The columns the scatter writes: the index result as a vector, each negative entry counted from the end. -/
abbrev cols (ix : IVec S32x1 32) : IVec S32 32 :=
  select (cmpi .slt (shapeCast S32 ix shapeCasts_S32x1_S32) (broadcastInDim S32 ![] bcast_S_S32 (constantI S_ 32 0#32)))
    (addi (shapeCast S32 ix shapeCasts_S32x1_S32) (broadcastInDim S32 ![] bcast_S_S32 (constantI S_ 32 1000000#32)))
    (shapeCast S32 ix shapeCasts_S32x1_S32)

/-- The penalties with those columns overwritten by the new value. -/
abbrev written (x p : FVec F S32x1000000 .f32) (v : FVec F S_ .f32) : FVec F S32x1000000 .f32 :=
  Host.scatter scatter_S32x1000000_S32x1_S32x32_0_1_1_1 (fun _ b => b) p
    (broadcastInDim S32x1 ![0] bcast_S32_S32x1_0 (cols (index x p)))
    (broadcastInDim S32x32 ![] bcast_S_S32x32 v)

/-- The fold at the index result, -/
theorem index_eq (V : Valuation τ sig (Elt F)) :
    after ops V (main_v2 : DevRef τ sig) = index (V (main_arg1 : DevRef τ sig)) (V (main_arg0 : DevRef τ sig)) := by
  after_results
  rfl

/-- at the written penalties, -/
theorem written_eq (V : Valuation τ sig (Elt F)) :
    after ops V (main_v11 : DevRef τ sig)
      = written (V (main_arg1 : DevRef τ sig)) (V (main_arg0 : DevRef τ sig)) (V (main_arg2 : DevRef τ sig)) := by
  after_results
  rfl

/-- and at the arguments, which no operation writes. -/
theorem arg0_eq (V : Valuation τ sig (Elt F)) :
    after ops V (main_arg0 : DevRef τ sig) = V (main_arg0 : DevRef τ sig) := by
  after_results
theorem arg1_eq (V : Valuation τ sig (Elt F)) :
    after ops V (main_arg1 : DevRef τ sig) = V (main_arg1 : DevRef τ sig) := by
  after_results
theorem arg2_eq (V : Valuation τ sig (Elt F)) :
    after ops V (main_arg2 : DevRef τ sig) = V (main_arg2 : DevRef τ sig) := by
  after_results

attribute [irreducible] pairs

/-- Nothing is scoped on this signature. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨binary_bufs_sub .., nullary_bufs_sub .., nullary_bufs_sub .., nullary_bufs_sub .., quaternary_bufs_sub ..,
    quaternary_bufs_sub .., unary_bufs_sub .., reshape_bufs_sub .., nullary_bufs_sub .., unary_bufs_sub ..,
    binary_bufs_sub .., nullary_bufs_sub .., unary_bufs_sub .., binary_bufs_sub .., ternary_bufs_sub ..,
    unary_bufs_sub .., unary_bufs_sub .., ternary_bufs_sub ..⟩

/-- What every final state of the reference holds. -/
def Final (m : (ℓ : Loc nD τ sig) → Buf (Elt F) ℓ) (r : PUnit × MemSt nD τ sig (Elt F)) : Prop :=
  (∀ c : Dev nD,
    r.2.mem ((c.tc : Thread nD τ).loc main_v11) = written (m ((c.tc : Thread nD τ).loc main_arg1))
        (m ((c.tc : Thread nD τ).loc main_arg0)) (m ((c.tc : Thread nD τ).loc main_arg2))
      ∧ r.2.mem ((c.tc : Thread nD τ).loc main_v2) = index (m ((c.tc : Thread nD τ).loc main_arg1))
        (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0

/-- Every fair execution of the reference ends, in such a state. -/
theorem run (m : (ℓ : Loc nD τ sig) → Buf (Elt F) ℓ) (ρ : Dev nD → PrngReg) :
    θ_run defs (onTc (τ := τ) (main (F := F))) ⟨m, fun _ => 0, ρ⟩ (Final m) :=
  (θ_run defs _ _).mono (fun r h => ⟨fun c => ⟨(h c main_v11).trans (written_eq _), (h c main_v2).trans (index_eq _),
      (h c main_arg0).trans (arg0_eq _), (h c main_arg1).trans (arg1_eq _), (h c main_arg2).trans (arg2_eq _)⟩,
      sem_eq_zero_of_no_sems (by decide) r.2⟩)
    (run_seq scopedRefs_eq scopedSems_eq defs main (fun _ => ops) main_eq (fun _ => ops_sub) m ρ)

end Cert.ReferenceIdeal.Argmax

end
-- ==== Proof.Ideal.Pre.lean ====
/-
  Over the extended reals: the precondition gives that every penalty is one, and a product with ones is the other
  factor.
-/
module

public import proofs.«01_k».proof.Defs
public import proofs.«01_k».proof.Proof.Gen.Pre_penalty_is_one
public import Idealize.ShloMosaic.Lib.ReduceAll
public import Idealize.ShloMosaic.Lib.IdealHost

@[expose] public section

set_option maxRecDepth 65536

noncomputable section

namespace Cert.Pre_penalty_is_one

open Idealize.ShloMosaic

theorem eq_one (p x : FVec Ideal S32x1000000 .f32) (v : FVec Ideal S_ .f32)
    (h : fn (F := Ideal) p x v = fun _ => 1#1) (y : S32x1000000.Idx) : p y = (1 : EReal) := by
  haveI : Subsingleton S_.Idx := ⟨fun a b => funext fun i => i.elim0⟩
  have e := Host.reduce_andi_all _ _ _ _ (Shape.Idx.first Gen.h_S_) (congrFun h (Shape.Idx.first Gen.h_S_)) y
  have e' : BitVec.ofBool (decide ((p y : EReal) = Ideal.ofBits .f32 0x3F800000#32)) = 1#1 := e
  rw [Ideal.ofBits_one_f32] at e'
  by_contra hn
  rw [decide_eq_false hn] at e'
  exact absurd e' (by decide)

theorem mul_one (p x : FVec Ideal S32x1000000 .f32) (h : ∀ y, p y = (1 : EReal)) : mulf x p = x := by
  funext y
  show (x y : EReal) * p y = x y
  rw [h y]
  exact _root_.mul_one (x y : EReal)

end Cert.Pre_penalty_is_one

end
-- ==== Proof.Ideal.Arg.lean ====
/-
  Over the extended reals: the column each row's greatest logit is at. A column's place is settled by three facts
  (`IsArg`): it is inside the array, no column's value is above its own, and every earlier column's value is below it.
  The lanes' running maxima keep these facts of the columns scanned so far (`Top` inside a block, `Best` across
  blocks), so the last block's accumulators give the row's column.
-/
module

public import proofs.«01_k».proof.Proof.Ideal.Seq
public import Idealize.ShloMosaic.PureOps.Ideal.Laws
public import Idealize.ShloMosaic.PureOps.Reduce
public import Idealize.ShloMosaic.Lib.SortNet.Extract
public import Idealize.ShloMosaic.Lib.ValueLayoutCasts

@[expose] public section

set_option maxRecDepth 65536

noncomputable section

namespace Cert.KernelIdeal.Argmax

open Idealize.ShloMosaic Idealize.ShloMosaic.TcCoe Idealize.SL.Sem

/-! ## On plain numbers -/

/-- Of the columns below `N`, column `i` is the first that reaches the greatest value. -/
structure IsArg (f : Nat → EReal) (N i : Nat) : Prop where
  lt : i < N
  le : ∀ c, c < N → f c ≤ f i
  first : ∀ c, c < i → f c < f i

/-- There is one such column only. -/
theorem IsArg.unique {f : Nat → EReal} {N i j : Nat} (hi : IsArg f N i) (hj : IsArg f N j) : i = j := by
  rcases Nat.lt_trichotomy i j with h | h | h
  · exact absurd (hj.first i h) (not_lt.mpr (hi.le j hj.lt))
  · exact h
  · exact absurd (hi.first j h) (not_lt.mpr (hj.le i hi.lt))

/-- Of the numbers from `a` below `b`, `v` is the greatest value of `g` and `s` the first number it is met at. -/
structure Top (g : Nat → EReal) (a b : Nat) (v : EReal) (s : Nat) : Prop where
  lo : a ≤ s
  hi : s < b
  eq : g s = v
  le : ∀ t, a ≤ t → t < b → g t ≤ v
  first : ∀ t, a ≤ t → t < s → g t < v

/-- The same, the number a 32-bit word. -/
def TopW (g : Nat → EReal) (a b : Nat) (v : EReal) (w : BitVec 32) : Prop := ∃ s, Top g a b v s ∧ w = BitVec.ofNat 32 s

theorem TopW.one (g : Nat → EReal) (a : Nat) : TopW g a (a + 1) (g a) (BitVec.ofNat 32 a) :=
  ⟨a, ⟨Nat.le_refl a, Nat.lt_succ_self a, rfl, fun t h₁ h₂ => by rw [show t = a by omega], fun t h₁ h₂ => by omega⟩, rfl⟩

theorem sel_ogt {A : Type} (v₁ v₂ : Ideal .f32) (x y : A) :
    Scalar.select (FloatOps.cmpf .ogt v₂ v₁) x y = if v₁ < v₂ then x else y := by
  show (if BitVec.ofBool (decide (v₁ < v₂)) = 1#1 then x else y) = _
  by_cases h : v₁ < v₂ <;> simp [h]

/-- Two stretches, one after the other: the later's value is taken where it is strictly greater. -/
theorem TopW.join {g : Nat → EReal} {a b c : Nat} {v₁ v₂ : Ideal .f32} {w₁ w₂ : BitVec 32} (h₁ : TopW g a b v₁ w₁) (h₂ : TopW g b c v₂ w₂) :
    TopW g a c (Scalar.select (FloatOps.cmpf .ogt v₂ v₁) v₂ v₁) (Scalar.select (FloatOps.cmpf .ogt v₂ v₁) w₂ w₁) := by
  obtain ⟨s₁, t₁, rfl⟩ := h₁
  obtain ⟨s₂, t₂, rfl⟩ := h₂
  rw [sel_ogt, sel_ogt]
  have := t₁.lo; have := t₁.hi; have := t₂.lo; have := t₂.hi
  split
  · next h =>
    refine ⟨s₂, ⟨by omega, t₂.hi, t₂.eq, fun t ha hc => ?_, fun t ha hs => ?_⟩, rfl⟩
    · rcases Nat.lt_or_ge t b with hb | hb
      · exact (t₁.le t ha hb).trans h.le
      · exact t₂.le t hb hc
    · rcases Nat.lt_or_ge t b with hb | hb
      · exact (t₁.le t ha hb).trans_lt h
      · exact t₂.first t hb hs
  · next h =>
    refine ⟨s₁, ⟨t₁.lo, by omega, t₁.eq, fun t ha hc => ?_, t₁.first⟩, rfl⟩
    rcases Nat.lt_or_ge t b with hb | hb
    · exact t₁.le t ha hb
    · exact (t₂.le t hb hc).trans (not_lt.mp h)

/-- Of the numbers below `T`: `v` is `⊥` and `i` is 0, or `v` is above `⊥` and lane `l` met it first at number `t`,
    whose column is `i`; either way no value is above `v`. -/
structure Best (g : Nat → EReal) (l T : Nat) (v : EReal) (i : Nat) : Prop where
  le : ∀ t, t < T → g t ≤ v
  at_ : (v = ⊥ ∧ i = 0) ∨ (⊥ < v ∧ ∃ t, t < T ∧ i = t * 128 + l ∧ g t = v ∧ ∀ u, u < t → g u < v)

def BestW (g : Nat → EReal) (l T : Nat) (v : EReal) (w : BitVec 32) : Prop := ∃ i, Best g l T v i ∧ w = BitVec.ofNat 32 i

theorem BestW.zero (g : Nat → EReal) (l : Nat) : BestW g l 0 ⊥ 0#32 :=
  ⟨0, ⟨fun t h => absurd h (Nat.not_lt_zero t), .inl ⟨rfl, rfl⟩⟩, rfl⟩

/-- A block of `n` further numbers. -/
theorem BestW.fold {g : Nat → EReal} {l T n : Nat} {v₁ v₂ : Ideal .f32} {w₁ w₂ w : BitVec 32} (h₁ : BestW g l T v₁ w₁)
    (h₂ : TopW (fun s => g (T + s)) 0 n v₂ w₂) (hw : ∀ s, w₂ = BitVec.ofNat 32 s → w = BitVec.ofNat 32 ((T + s) * 128 + l)) :
    BestW g l (T + n) (Scalar.select (FloatOps.cmpf .ogt v₂ v₁) v₂ v₁) (Scalar.select (FloatOps.cmpf .ogt v₂ v₁) w w₁) := by
  obtain ⟨i, b, rfl⟩ := h₁
  obtain ⟨s, t, hs⟩ := h₂
  rw [sel_ogt, sel_ogt, hw s hs]
  have hsn := t.hi
  have later : ∀ u, T ≤ u → u < T + n → g u ≤ v₂ := fun u ha hb => by
    have := t.le (u - T) (Nat.zero_le _) (by omega)
    simpa [Nat.add_sub_cancel' ha] using this
  split
  · next h =>
    refine ⟨(T + s) * 128 + l, ⟨fun u hu => ?_, .inr ⟨bot_le.trans_lt h, T + s, by omega, rfl, t.eq, fun u hu => ?_⟩⟩, rfl⟩
    · rcases Nat.lt_or_ge u T with hT | hT
      · exact (b.le u hT).trans h.le
      · exact later u hT hu
    · rcases Nat.lt_or_ge u T with hT | hT
      · exact (b.le u hT).trans_lt h
      · have := t.first (u - T) (Nat.zero_le _) (by omega)
        simpa [Nat.add_sub_cancel' hT] using this
  · next h =>
    refine ⟨i, ⟨fun u hu => ?_, ?_⟩, rfl⟩
    · rcases Nat.lt_or_ge u T with hT | hT
      · exact b.le u hT
      · exact (later u hT hu).trans (not_lt.mp h)
    · rcases b.at_ with h0 | ⟨h0, u, hu, e⟩
      · exact .inl h0
      · exact .inr ⟨h0, u, by omega, e⟩

/-! ## A block's scan -/

section Scan
variable (sl : Nat → Vec Ideal S32x128 .f32) (y : S32x128.Idx)

theorem acc_top (lo : Nat) : ∀ n, TopW (fun s => sl s y) lo (lo + n + 1) (accV sl lo n y) (accI sl lo n y)
  | 0 => TopW.one (fun s => sl s y) lo
  | n + 1 => TopW.join (acc_top lo n) (TopW.one (fun s => sl s y) (lo + n + 1))

theorem block_top (q q' : Nat) : TopW (fun s => sl s y) 0 (3 * (q + 1) + q' + 1) (blockV sl q q' y) (blockI sl q q' y) := by
  have h0 := acc_top sl y 0 q
  have h1 := acc_top sl y (q + 1) q
  have h2 := acc_top sl y (2 * (q + 1)) q
  have h3 := acc_top sl y (3 * (q + 1)) q'
  rw [show 0 + q + 1 = q + 1 by omega] at h0
  rw [show q + 1 + q + 1 = 2 * (q + 1) by omega] at h1
  rw [show 2 * (q + 1) + q + 1 = 3 * (q + 1) by omega] at h2
  exact ((h0.join h1).join h2).join h3

end Scan

/-! ## A row of the array -/

/-- The array's element at a row and a column. -/
def place (r : Fin 32) (c : Nat) (h : c < 1000000) : S32x1000000.Idx := fun a =>
  match a with
  | ⟨0, _⟩ => r
  | ⟨1, _⟩ => ⟨c, h⟩

theorem place_self (y : S32x1000000.Idx) : place (y 0) (y 1).val (y 1).isLt = y := by
  funext a; fin_cases a <;> rfl

/-- A lane's row. -/
def rowOf (y : S32x128.Idx) : Fin 32 := y 0

/-- Row `r`'s value at column `c`, `⊥` past the last column. -/
def row (L : S32x1000000.Idx → Ideal .f32) (r : Fin 32) (c : Nat) : Ideal .f32 :=
  if h : c < 1000000 then L (place r c h) else (⊥ : EReal)

theorem bot_eq : (Scalar.ofBits .f32 0xFF800000#32 : Ideal .f32) = (⊥ : EReal) := by
  show Ideal.ofBits .f32 0xFF800000#32 = ⊥
  simp [Ideal.ofBits, Ideal.ieee]

variable (L : S32x1000000.Idx → Ideal .f32)

/-- An element of a block, by its row and its place in the row. -/
theorem xb_apply (k : Nat) (y : S32x71680.Idx) (h : 71680 * k + (y 1).val < 1000000) :
    xb (F := Ideal) L k y = row L (y 0) (71680 * k + (y 1).val) := by
  unfold xb row
  rw [dif_pos h, dif_pos h]
  congr 1

/-- The lane's value at a slice of a block, the slice inside the array. -/
theorem slice_row (k s : Nat) (hs : s < 560) (y : S32x128.Idx) (h : (560 * k + s) * 128 + (y 1).val < 1000000) :
    slice (xb (F := Ideal) L k) (128 * s) y = row L (rowOf y) ((560 * k + s) * 128 + (y 1).val) := by
  rw [slice_apply _ (by omega), xb_apply]
  · exact congrArg (row L (rowOf y)) (by show 71680 * k + (128 * s + (y 1).val) = _; omega)
  · show 71680 * k + (128 * s + (y 1).val) < _
    omega

/-- The lane's value at slice `s` of a block inside the array. -/
theorem sl0_apply (k s : Nat) (hk : k < 13) (hs : s < 560) (y : S32x128.Idx) :
    sl0 (xb (F := Ideal) L k) s y = row L (rowOf y) ((560 * k + s) * 128 + (y 1).val) := by
  have hy : (y 1).val < 128 := (y 1).isLt
  exact slice_row L k s hs y (by omega)

/-- The lane's value at slice `s` of the last block, past the array's end `⊥`. -/
theorem sl1_apply (s : Nat) (hs : s < 533) (y : S32x128.Idx) :
    sl1 (xb (F := Ideal) L 13) s y = row L (rowOf y) ((560 * 13 + s) * 128 + (y 1).val) := by
  have hy : (y 1).val < 128 := (y 1).isLt
  unfold sl1
  by_cases e : s = 532
  · subst e
    show Gen.k0_pay2352 lane (slice (xb (F := Ideal) L 13) (128 * 532)) y = _
    rw [mask_apply]
    split
    · exact slice_row L 13 532 (by omega) y (by omega)
    · rw [bot_eq]
      unfold row
      rw [dif_neg (by omega)]
  · rw [show Nat.beq s 532 = false from Bool.eq_false_iff.mpr fun h => e (Nat.eq_of_beq_eq_true h)]
    exact slice_row L 13 s (by omega) y (by omega)

theorem TopW.congr {g g' : Nat → EReal} {a b : Nat} {v : EReal} {w : BitVec 32} (h : ∀ t, t < b → g t = g' t) (H : TopW g a b v w) :
    TopW g' a b v w := by
  obtain ⟨s, t, rfl⟩ := H
  refine ⟨s, ⟨t.lo, t.hi, (h s t.hi).symm.trans t.eq, fun u h₁ h₂ => (h u h₂).symm ▸ t.le u h₁ h₂, fun u h₁ h₂ => ?_⟩, rfl⟩
  rw [← h u (h₂.trans t.hi)]
  exact t.first u h₁ h₂

/-- The word the body makes of a slice's number. -/
theorem gcol_apply (k s : Nat) (bs : IVec S32x128 32) (y : S32x128.Idx) (h : bs y = BitVec.ofNat 32 s) :
    gcol k bs y = BitVec.ofNat 32 ((560 * k + s) * 128 + (y 1).val) := by
  show BitVec.ofNat 32 k * 71680#32 + bs y * 128#32 + lane y = _
  rw [h, lane_apply, show (71680#32 : BitVec 32) = BitVec.ofNat 32 71680 from rfl, show (128#32 : BitVec 32) = BitVec.ofNat 32 128 from rfl,
    ← BitVec.ofNat_mul, ← BitVec.ofNat_mul, ← BitVec.ofNat_add, ← BitVec.ofNat_add]
  congr 1; omega

/-- One block more in the accumulators. -/
theorem fold_best (k q q' : Nat) (sl : Nat → Vec Ideal S32x128 .f32) (bv : Vec Ideal S32x128 .f32) (bi : IVec S32x128 32) (y : S32x128.Idx)
    (hsl : ∀ s, s < 3 * (q + 1) + q' + 1 → sl s y = row L (rowOf y) ((560 * k + s) * 128 + (y 1).val))
    (hb : BestW (fun t => row L (rowOf y) (t * 128 + (y 1).val)) (y 1).val (560 * k) (bv y) (bi y)) :
    BestW (fun t => row L (rowOf y) (t * 128 + (y 1).val)) (y 1).val (560 * k + (3 * (q + 1) + q' + 1))
      (foldV sl q q' bv y) (foldI k sl q q' bv bi y) := by
  unfold foldV foldI
  rw [shapeCast_self, shapeCast_self]
  exact hb.fold ((block_top sl y q q').congr hsl) fun s hs => gcol_apply k s _ y hs

/-- The accumulators after block `n` of the first thirteen, -/
theorem best_at (y : S32x128.Idx) : ∀ n, n < 13 →
    BestW (fun t => row L (rowOf y) (t * 128 + (y 1).val)) (y 1).val (560 * (n + 1)) (bvAt (F := Ideal) L n y) (biAt (F := Ideal) L n y)
  | 0, _ => by
    refine fold_best L 0 139 139 _ _ _ y (fun s hs => sl0_apply L 0 s (by omega) (by omega) y) ?_
    have e : (Gen.k0_pay1 (F := Ideal)) y = (⊥ : EReal) := by
      show shapeCast S32x128 (broadcast S32x128 (Scalar.ofBits .f32 0xFF800000#32 : Ideal .f32)) _ y = _
      rw [shapeCast_self]; exact bot_eq
    have e' : Gen.k0_pay2 y = 0#32 := by
      show shapeCast S32x128 (broadcast S32x128 0#32) _ y = _
      rw [shapeCast_self]; rfl
    rw [e, e']
    exact BestW.zero _ _
  | n + 1, h => by
    rw [bvAt_step (F := Ideal) L (n := n) (by omega), biAt_step (F := Ideal) L (n := n) (by omega)]
    exact fold_best L (n + 1) 139 139 _ _ _ y (fun s hs => sl0_apply L (n + 1) s h (by omega) y) (best_at y n (by omega))

theorem bvAt_last : bvAt (F := Ideal) L (12 + 1) = foldV (sl1 (xb (F := Ideal) L 13)) 133 130 (bvAt (F := Ideal) L 12) := if_pos rfl
theorem biAt_last : biAt (F := Ideal) L (12 + 1)
    = foldI 13 (sl1 (xb (F := Ideal) L 13)) 133 130 (bvAt (F := Ideal) L 12) (biAt (F := Ideal) L 12) := if_pos rfl

/-- and after the last. -/
theorem best_last (y : S32x128.Idx) :
    BestW (fun t => row L (rowOf y) (t * 128 + (y 1).val)) (y 1).val 7813 (bvAt (F := Ideal) L (12 + 1) y) (biAt (F := Ideal) L (12 + 1) y) := by
  rw [bvAt_last, biAt_last]
  exact fold_best L 13 133 130 _ _ _ y (fun s hs => sl1_apply L s (by omega) y) (best_at L y 12 (by omega))

/-! ## The row's column, read off the lanes -/

/-- A least word of a finite family. -/
theorem fold_minsi {ι : Type} [DecidableEq ι] (w : ι → BitVec 32) (b : BitVec 32) (s : Finset ι) :
    (∀ x ∈ s, (s.fold IntOp.minsi b w).toInt ≤ (w x).toInt)
      ∧ (s.fold IntOp.minsi b w = b ∨ ∃ x ∈ s, s.fold IntOp.minsi b w = w x) := by
  induction s using Finset.induction_on with
  | empty => exact ⟨fun x h => absurd h (Finset.notMem_empty x), .inl rfl⟩
  | insert a s ha ih =>
    rw [Finset.fold_insert ha]
    obtain ⟨h₁, h₂⟩ := ih
    have key := SortNet.toInt_minsi (w a) (s.fold IntOp.minsi b w)
    refine ⟨fun x hx => ?_, ?_⟩
    · rw [key]
      rcases Finset.mem_insert.mp hx with rfl | hx
      · exact min_le_left _ _
      · exact (min_le_right _ _).trans (h₁ x hx)
    · unfold IntOp.minsi
      split
      · exact .inr ⟨a, Finset.mem_insert_self _ _, rfl⟩
      · rcases h₂ with h₂ | ⟨x, hx, h₂⟩
        · exact .inl h₂
        · exact .inr ⟨x, Finset.mem_insert_of_mem hx, h₂⟩

/-- The greatest of a row's lanes. -/
def rmax (v : FVec Ideal S32x128 .f32) (j : S32.Idx) : Ideal .f32 :=
  multiReduction .maximumf [1] S32 v 0xFF800000#32 Gen.reduces_S32x128_S32 (.inl rfl) rfl j

theorem drop_iff (y : S32x128.Idx) (j : S32.Idx) : Gen.reduces_S32x128_S32.drop y = j ↔ (y 0).val = (j 0).val := by
  constructor
  · rintro rfl
    exact (Gen.reduces_S32x128_S32.drop_apply_val_of_eq y 0 0).symm
  · intro h
    funext a
    apply Fin.ext
    fin_cases a
    exact (Gen.reduces_S32x128_S32.drop_apply_val_of_eq y 0 0).trans h

theorem rmax_spec (v : FVec Ideal S32x128 .f32) (j : S32.Idx) :
    (∀ y : S32x128.Idx, (y 0).val = (j 0).val → (v y : EReal) ≤ rmax v j) ∧ ∃ y : S32x128.Idx, (y 0).val = (j 0).val ∧ v y = rmax v j := by
  have e : rmax v j = (Finset.univ.filter fun i => Gen.reduces_S32x128_S32.drop i = j).fold (max : EReal → EReal → EReal) ⊥ v := by
    refine (multiReduction_maximumf_eq_fold v _ _ _ _ j).trans ?_
    rw [show (FloatOps.ofBits .f32 0xFF800000#32 : Ideal .f32) = (⊥ : EReal) from bot_eq]
    rfl
  have le : ∀ y : S32x128.Idx, (y 0).val = (j 0).val → (v y : EReal) ≤ rmax v j := fun y hy => by
    rw [e]
    exact Finset.le_fold_max _ |>.mpr (.inr ⟨y, Finset.mem_filter.mpr ⟨Finset.mem_univ _, (drop_iff y j).mpr hy⟩, le_rfl⟩)
  refine ⟨le, ?_⟩
  rcases (Finset.le_fold_max (rmax v j : EReal)).mp (le_of_eq e) with h | ⟨y, hy, h⟩
  · have hj : (j 0).val < 32 := (j 0).isLt
    let y : S32x128.Idx := fun a => match a with | ⟨0, _⟩ => j 0 | ⟨1, _⟩ => ⟨0, by show 0 < 128; omega⟩
    exact ⟨y, rfl, le_antisymm (le y rfl) (h.trans bot_le)⟩
  · have hy' := (drop_iff y j).mp (Finset.mem_filter.mp hy).2
    exact ⟨y, hy', le_antisymm (le y hy') h⟩

end Cert.KernelIdeal.Argmax

end
-- ==== Proof.Ideal.Col.lean ====
/-
  Over the extended reals: the word the kernel stores for a row is the row's column (`IX_isArg`).
-/
module

public import proofs.«01_k».proof.Proof.Ideal.Arg

@[expose] public section

set_option maxRecDepth 65536

noncomputable section

namespace Cert.KernelIdeal.Argmax

open Idealize.ShloMosaic Idealize.ShloMosaic.TcCoe Idealize.SL.Sem Idealize.ShloMosaic.ValueIdx

theorem toInt_ofNat {i : Nat} (h : i < 2147483648) : (BitVec.ofNat 32 i).toInt = i := by
  rw [BitVec.toInt_eq_toNat_cond, BitVec.toNat_ofNat, Nat.mod_eq_of_lt (by omega), if_pos (by omega)]

/-- The word of a lane: its column's where its value is the row's greatest. -/
def cand (v : FVec Ideal S32x128 .f32) (b : IVec S32x128 32) : IVec S32x128 32 :=
  select (cmpf .oeq v (broadcastTo S32x128 (shapeCast S32x1 (rmax v) Gen.shapeCasts_S32_S32x1) Gen.broadcasts_S32x1_S32x128)) b
    (broadcast S32x128 1073741824#32)

theorem cand_apply (v : FVec Ideal S32x128 .f32) (b : IVec S32x128 32) (y : S32x128.Idx) :
    cand v b y = if (v y : EReal) = rmax v (ix1 (rowOf y)) then b y else 1073741824#32 := by
  have e : broadcastTo S32x128 (shapeCast S32x1 (rmax v) Gen.shapeCasts_S32_S32x1) Gen.broadcasts_S32x1_S32x128 y = rmax v (ix1 (rowOf y)) := by
    rw [broadcastTo_apply _ _ y (ix2 (rowOf y) (0 : Fin 1))]
    · exact shapeCast_a_a1_apply (rmax v) _ (rowOf y) 0
    · intro a; fin_cases a <;> rfl
  show Scalar.select (FloatOps.cmpf .oeq (v y) (broadcastTo S32x128 (shapeCast S32x1 (rmax v) Gen.shapeCasts_S32_S32x1) Gen.broadcasts_S32x1_S32x128 y)) (b y) 1073741824#32 = _
  rw [e]
  show (if BitVec.ofBool (decide ((v y : EReal) = rmax v (ix1 (rowOf y)))) = 1#1 then b y else _) = _
  by_cases h : (v y : EReal) = rmax v (ix1 (rowOf y)) <;> simp [h]

/-- The least of a row's words. -/
def rmin (w : IVec S32x128 32) (j : S32.Idx) : BitVec 32 :=
  multiReductionI .minsi [1] S32 w 2147483647#32 Gen.reduces_S32x128_S32 rfl j

theorem rmin_spec (w : IVec S32x128 32) (j : S32.Idx) (hw : ∀ y, (w y).toInt ≤ 1073741824) :
    (∀ y : S32x128.Idx, (y 0).val = (j 0).val → (rmin w j).toInt ≤ (w y).toInt) ∧ ∃ y : S32x128.Idx, (y 0).val = (j 0).val ∧ rmin w j = w y := by
  classical
  have e : rmin w j = (Finset.univ.filter fun i => Gen.reduces_S32x128_S32.drop i = j).fold IntOp.minsi 2147483647#32 w :=
    multiReductionI_eq_fold .minsi w _ _ _ j
  have H := fold_minsi w 2147483647#32 (Finset.univ.filter fun i => Gen.reduces_S32x128_S32.drop i = j)
  rw [← e] at H
  have le : ∀ y : S32x128.Idx, (y 0).val = (j 0).val → (rmin w j).toInt ≤ (w y).toInt := fun y hy =>
    H.1 y (Finset.mem_filter.mpr ⟨Finset.mem_univ _, (drop_iff y j).mpr hy⟩)
  refine ⟨le, ?_⟩
  rcases H.2 with h | ⟨y, hy, h⟩
  · let y : S32x128.Idx := fun a => match a with | ⟨0, _⟩ => j 0 | ⟨1, _⟩ => ⟨0, by show 0 < 128; omega⟩
    have h₁ := le y rfl
    have h₂ := hw y
    rw [h, show (2147483647#32 : BitVec 32).toInt = 2147483647 from by decide] at h₁
    omega
  · exact ⟨y, (drop_iff y j).mp (Finset.mem_filter.mp hy).2, h⟩

theorem IX_apply (L : S32x1000000.Idx → Ideal .f32) (r : Fin 32) (u : Fin 1) :
    IX (F := Ideal) L (ix2 r u) = rmin (cand (bvAt (F := Ideal) L 13) (biAt (F := Ideal) L 13)) (ix1 r) :=
  shapeCast_a_a1_apply (rmin (cand (bvAt (F := Ideal) L 13) (biAt (F := Ideal) L 13))) _ r u

/-- The bits of a lane's state, as what they say of the row. -/
theorem Best.arg {f : Nat → EReal} {l T : Nat} {v : EReal} {i : Nat} (b : Best (fun t => f (t * 128 + l)) l T v i) (hT : T ≤ 7813) (hl : l < 128) :
    i < 1000064 := by
  rcases b.at_ with ⟨_, h⟩ | ⟨_, t, ht, h, _⟩ <;> omega

/-- The row's column, from the lanes: the least word among those whose value is the greatest. -/
theorem isArg_of_lanes (f : Nat → EReal) (hf : ∀ c, 1000000 ≤ c → f c = ⊥) (v : Nat → EReal) (i : Nat → Nat) (M : EReal) (l₀ : Nat) (hl₀ : l₀ < 128)
    (hb : ∀ l, l < 128 → Best (fun t => f (t * 128 + l)) l 7813 (v l) (i l))
    (hM : ∀ l, l < 128 → v l ≤ M) (h₀ : v l₀ = M) (hmin : ∀ l, l < 128 → v l = M → i l₀ ≤ i l) : IsArg f 1000000 (i l₀) := by
  have le : ∀ c, c < 1000000 → f c ≤ M := fun c hc => by
    have := (hb (c % 128) (Nat.mod_lt _ (by omega))).le (c / 128) (by omega)
    rw [show c / 128 * 128 + c % 128 = c by omega] at this
    exact this.trans (hM _ (Nat.mod_lt _ (by omega)))
  rcases (hb l₀ hl₀).at_ with ⟨hv, hi⟩ | ⟨hv, t, ht, hi, hg, hfirst⟩
  · have hbot : M = ⊥ := h₀.symm.trans hv
    rw [hi]
    have h0 : f 0 ≤ M := le 0 (by omega)
    refine ⟨by omega, fun c hc => ?_, fun c hc => absurd hc (Nat.not_lt_zero c)⟩
    exact (le c hc).trans (hbot ▸ bot_le)
  · have hfi : f (i l₀) = M := by rw [hi]; exact hg.trans h₀
    have hlt : i l₀ < 1000000 := by
      by_contra h
      have := hf (i l₀) (by omega)
      rw [hfi, ← h₀] at this
      exact absurd this hv.ne'
    refine ⟨hlt, fun c hc => hfi ▸ le c hc, fun c hc => ?_⟩
    rw [hfi]
    refine lt_of_le_of_ne (le c (hc.trans hlt)) fun e => ?_
    -- a column before it with the same value would make its lane's word a smaller candidate
    have hm : c % 128 < 128 := Nat.mod_lt _ (by omega)
    have B := hb (c % 128) hm
    have hc' := B.le (c / 128) (by omega)
    have ec : c / 128 * 128 + c % 128 = c := by omega
    rw [ec, e] at hc'
    have hvM : v (c % 128) = M := le_antisymm (hM _ hm) hc'
    have hle := hmin _ hm hvM
    rcases B.at_ with ⟨hv', hi'⟩ | ⟨hv', t', ht', hi', hg', hfirst'⟩
    · omega
    · have : c / 128 < t' := by
        by_contra hn
        have : t' * 128 + c % 128 ≤ c := by omega
        omega
      have hlt' := hfirst' (c / 128) this
      rw [ec, e, hvM] at hlt'
      exact lt_irrefl _ hlt'

theorem row_past (L : S32x1000000.Idx → Ideal .f32) (r : Fin 32) (c : Nat) (h : 1000000 ≤ c) : row L r c = (⊥ : EReal) := by
  unfold row; rw [dif_neg (by omega)]

/-- The kernel's word for a row is the row's column. -/
theorem IX_isArg (L : S32x1000000.Idx → Ideal .f32) (r : Fin 32) (u : Fin 1) :
    ∃ i, IsArg (row L r) 1000000 i ∧ IX (F := Ideal) L (ix2 r u) = BitVec.ofNat 32 i := by
  have hb : ∀ l : Fin 128, BestW (fun t => row L r (t * 128 + l.val)) l.val 7813 (bvAt (F := Ideal) L 13 (ix2 r l)) (biAt (F := Ideal) L 13 (ix2 r l)) :=
    fun l => best_last L (ix2 r l)
  choose i hi hw using hb
  let v : Nat → EReal := fun l => if h : l < 128 then bvAt (F := Ideal) L 13 (ix2 r (⟨l, h⟩ : Fin 128)) else ⊥
  let i' : Nat → Nat := fun l => if h : l < 128 then i ⟨l, h⟩ else 0
  have hv : ∀ l : Fin 128, v l.val = bvAt (F := Ideal) L 13 (ix2 r l) := fun l => dif_pos l.isLt
  have hi' : ∀ l : Fin 128, i' l.val = i l := fun l => dif_pos l.isLt
  have hB : ∀ l, l < 128 → Best (fun t => row L r (t * 128 + l)) l 7813 (v l) (i' l) := fun l h => by
    have := hi ⟨l, h⟩
    rw [← hv ⟨l, h⟩, ← hi' ⟨l, h⟩] at this
    exact this
  have hlt : ∀ l : Fin 128, i l < 1000064 := fun l => (hi l).arg (f := row L r) (le_refl _) l.isLt
  obtain ⟨hle, y₁, hy₁, hmax⟩ := rmax_spec (bvAt (F := Ideal) L 13) (ix1 r)
  have hcand : ∀ y, (cand (bvAt (F := Ideal) L 13) (biAt (F := Ideal) L 13) y).toInt ≤ 1073741824 := fun y => by
    rw [cand_apply]
    split
    · obtain ⟨j, hj, ej⟩ := best_last L y
      have : (y 1).val < 128 := (y 1).isLt
      have hj' := hj.arg (f := row L (rowOf y)) (le_refl _) this
      rw [show biAt (F := Ideal) L 13 y = BitVec.ofNat 32 j from ej, toInt_ofNat (by omega)]
      omega
    · decide
  obtain ⟨hmin, y₀, hy₀, h₀⟩ := rmin_spec _ (ix1 r) hcand
  have lane_of : ∀ y : S32x128.Idx, (y 0).val = r.val → ∃ l : Fin 128, y = ix2 r l := fun y hy => by
    refine ⟨y 1, ?_⟩
    have : y 0 = r := Fin.ext hy
    exact (eq_ix2 y).trans (by rw [this]; rfl)
  have at_max : ∀ l : Fin 128, v l.val = rmax (bvAt (F := Ideal) L 13) (ix1 r) →
      cand (bvAt (F := Ideal) L 13) (biAt (F := Ideal) L 13) (ix2 r l) = BitVec.ofNat 32 (i l) := fun l h => by
    exact ((cand_apply _ _ _).trans (if_pos ((hv l).symm.trans h))).trans (hw l)
  obtain ⟨l₁, rfl⟩ := lane_of y₁ hy₁
  obtain ⟨l₀, rfl⟩ := lane_of y₀ hy₀
  have e₀ : v l₀.val = rmax (bvAt (F := Ideal) L 13) (ix1 r) := by
    by_contra hne
    have c₀ : cand (bvAt (F := Ideal) L 13) (biAt (F := Ideal) L 13) (ix2 r l₀) = 1073741824#32 := by
      exact (cand_apply _ _ _).trans (if_neg fun h => hne ((hv l₀).trans h))
    have h₁ := hmin (ix2 r l₁) rfl
    have := hlt l₁
    rw [at_max l₁ ((hv l₁).trans hmax), h₀, c₀, toInt_ofNat (by omega), toInt_ofNat (by omega)] at h₁
    omega
  refine ⟨i' l₀.val, isArg_of_lanes (row L r) (row_past L r) v i' (rmax (bvAt (F := Ideal) L 13) (ix1 r)) l₀.val l₀.isLt hB ?_ e₀ ?_, ?_⟩
  · intro l h
    rw [hv ⟨l, h⟩]
    exact hle (ix2 r (⟨l, h⟩ : Fin 128)) rfl
  · intro l h hl
    have h₁ := hmin (ix2 r (⟨l, h⟩ : Fin 128)) rfl
    rw [at_max ⟨l, h⟩ hl, h₀, at_max l₀ e₀] at h₁
    have := hlt l₀; have := hlt ⟨l, h⟩
    rw [toInt_ofNat (by omega), toInt_ofNat (by omega)] at h₁
    rw [hi' l₀, hi' ⟨l, h⟩]
    omega
  · rw [IX_apply, hi' l₀, ← at_max l₀ e₀]
    exact h₀

end Cert.KernelIdeal.Argmax

end
-- ==== Proof.Ideal.Table.lean ====
/-
  The table of columns: the word the body copies into scalar memory for row `r` is the row's own index word, that word
  not negative (`jw_eq`); and what a block of the result holds after the table's words were written (`cols_apply`).
-/
module

public import proofs.«01_k».proof.Proof.Ideal.Col

@[expose] public section

set_option maxRecDepth 65536

noncomputable section

namespace Cert.KernelIdeal.Argmax

open Idealize.ShloMosaic Idealize.ShloMosaic.TcCoe Idealize.SL.Sem Idealize.ShloMosaic.ValueIdx

/-- The greatest of a family of words, one of them its own and every other one zero. -/
theorem fold_maxsi_one {ι : Type} [DecidableEq ι] (f : ι → BitVec 32) (a : ι) (ha : 0 ≤ (f a).toInt) (hf : ∀ x, x ≠ a → f x = 0#32) :
    ∀ s : Finset ι, (a ∈ s → s.fold IntOp.maxsi 2147483648#32 f = f a)
      ∧ (a ∉ s → s.fold IntOp.maxsi 2147483648#32 f = 2147483648#32 ∨ s.fold IntOp.maxsi 2147483648#32 f = 0#32) := by
  have zmax : ∀ w : BitVec 32, 0 ≤ w.toInt → ∀ v : BitVec 32, v = 2147483648#32 ∨ v = 0#32 → IntOp.maxsi w v = w := fun w hw v hv => by
    apply BitVec.eq_of_toInt_eq
    rw [SortNet.toInt_maxsi]
    rcases hv with rfl | rfl
    · exact max_eq_left (le_trans (by decide) hw)
    · exact max_eq_left hw
  intro s
  induction s using Finset.induction_on with
  | empty => exact ⟨fun h => absurd h (Finset.notMem_empty a), fun _ => .inl rfl⟩
  | insert b s hb ih =>
    rw [Finset.fold_insert hb]
    by_cases hab : b = a
    · subst hab
      exact ⟨fun _ => zmax _ ha _ (ih.2 hb), fun h => absurd (Finset.mem_insert_self _ _) h⟩
    · rw [hf b hab]
      refine ⟨fun h => ?_, fun h => ?_⟩
      · rw [ih.1 (by simpa [Ne.symm hab] using h)]
        apply BitVec.eq_of_toInt_eq
        rw [SortNet.toInt_maxsi]
        exact max_eq_right (le_trans (by decide) ha)
      · exact .inr (zmax _ (by decide) _ (ih.2 fun h' => h (Finset.mem_insert_of_mem h')))

/-- The index result with every word but row `r`'s replaced by zero, as the body reduces it. -/
def only (ix : IVec S32x1 32) (r : Nat) : IVec S1x32x1 32 :=
  shapeCast S1x32x1 (select (cmpi .eq (iota .tc S32x1 32 [0] Gen.iota_S32x1_d0_w32) (broadcast S32x1 (BitVec.ofNat 32 r))) ix (broadcast S32x1 0#32))
    Gen.shapeCasts_S32x1_S1x32x1

theorem only_apply (ix : IVec S32x1 32) (r : Nat) (hr : r < 32) (q : Fin 32) :
    only ix r (ix3 (0 : Fin 1) q (0 : Fin 1)) = if q.val = r then ix (ix2 q (0 : Fin 1)) else 0#32 := by
  unfold only
  rw [shapeCast_apply _ _ _ (ix2 q (0 : Fin 1)) (by rw [Shape.rowMajor_val_two, Shape.rowMajor_val_three]; simp)]
  show (if BitVec.ofBool (BitVec.ofNat 32 (0 * 32 + q.val) == BitVec.ofNat 32 r) = 1 then _ else _) = _
  have : (BitVec.ofBool (BitVec.ofNat 32 (0 * 32 + q.val) == BitVec.ofNat 32 r) = 1) ↔ q.val = r := by
    have hq := q.isLt
    rw [show (1 : BitVec 1) = BitVec.ofBool true from rfl, BitVec.ofBool_eq_iff_eq, beq_iff_eq, ← BitVec.toNat_inj, BitVec.toNat_ofNat,
      BitVec.toNat_ofNat, Nat.mod_eq_of_lt (by omega), Nat.mod_eq_of_lt (by omega)]
    omega
  simp only [this]
  rfl

/-- The word copied for row `r` is the row's index word. -/
theorem jw_eq (ix : IVec S32x1 32) (r : Fin 32) (h : 0 ≤ (ix (ix2 r (0 : Fin 1))).toInt) : jw ix r.val = ix (ix2 r (0 : Fin 1)) := by
  classical
  have e : ∀ j, multiReductionI .maxsi [1, 2] S1 (only ix r.val) 2147483648#32 Gen.reduces_S1x32x1_S1 rfl j = ix (ix2 r (0 : Fin 1)) := fun j => by
    refine (multiReductionI_eq_fold .maxsi (only ix r.val) _ _ _ j).trans ?_
    have hs : ∀ y : S1x32x1.Idx, ∃ q : Fin 32, y = ix3 (0 : Fin 1) q (0 : Fin 1) := fun y => by
      refine ⟨y 1, funext fun a => ?_⟩
      match a with
      | ⟨0, _⟩ => exact Subsingleton.elim (α := Fin 1) _ _
      | ⟨1, _⟩ => rfl
      | ⟨2, _⟩ => exact Subsingleton.elim (α := Fin 1) _ _
    have ea : only ix r.val (ix3 (0 : Fin 1) r (0 : Fin 1)) = ix (ix2 r (0 : Fin 1)) := (only_apply ix r.val r.isLt r).trans (if_pos rfl)
    have key := (fold_maxsi_one (only ix r.val) (ix3 (0 : Fin 1) r (0 : Fin 1)) (ea ▸ h) fun y hy => ?_) (Finset.univ.filter fun i => Gen.reduces_S1x32x1_S1.drop i = j)
    · refine (key.1 ?_).trans ea
      refine Finset.mem_filter.mpr ⟨Finset.mem_univ _, funext fun a => ?_⟩
      match a with
      | ⟨0, _⟩ => exact Subsingleton.elim (α := Fin 1) _ _
    · obtain ⟨q, rfl⟩ := hs y
      refine (only_apply ix r.val r.isLt q).trans (if_neg fun hq => hy ?_)
      rw [Fin.ext hq]
  exact e _

variable {F : FTy → Type} [FloatOps F]

/-- A block of the result after the table's first `n` words. -/
theorem cols_apply (k : Nat) (p : F .f32) (js : S32.Idx → BitVec 32) (y : S32x71680.Idx) :
    ∀ n, ((∃ q, q < n ∧ (y 1).val = (dcol k (jsAt js q)).toNat) → cols k p js n y = p)
      ∧ ((∀ q, q < n → (y 1).val ≠ (dcol k (jsAt js q)).toNat) → cols k p js n y = Gen.k0_pay2401 (F := F) y)
  | 0 => ⟨fun ⟨q, hq, _⟩ => absurd hq (Nat.not_lt_zero q), fun _ => rfl⟩
  | n + 1 => by
    have ih := cols_apply k p js y n
    show (_ → setCol (dcol k (jsAt js n)) p (cols k p js n) y = p) ∧ (_ → setCol (dcol k (jsAt js n)) p (cols k p js n) y = _)
    unfold setCol
    by_cases h : (y 1).val = (dcol k (jsAt js n)).toNat
    · rw [if_pos h]
      exact ⟨fun _ => rfl, fun hn => absurd h (hn n (Nat.lt_succ_self n))⟩
    · rw [if_neg h]
      refine ⟨fun ⟨q, hq, e⟩ => ih.1 ⟨q, ?_, e⟩, fun hn => ih.2 fun q hq => hn q (Nat.lt_succ_of_lt hq)⟩
      rcases Nat.lt_succ_iff_lt_or_eq.mp hq with hq | rfl
      · exact hq
      · exact absurd e h

/-- The word's column within the block, as numbers: the word names the column of the array. -/
theorem dcol_eq_iff {k i c : Nat} (hi : i < 1000000) (hk : k < 14) (hc : c < 71680) :
    c = (dcol k (BitVec.ofNat 32 i)).toNat ↔ i = 71680 * k + c := by
  show c = (BitVec.ofNat 32 i - BitVec.ofNat 32 k * 71680#32).toNat ↔ _
  rw [BitVec.toNat_sub, BitVec.toNat_mul, BitVec.toNat_ofNat, BitVec.toNat_ofNat, BitVec.toNat_ofNat]
  omega

/-- A block of the kernel's first result: the new value at the columns the rows' index words name, ones elsewhere. -/
theorem outB_apply (L : S32x1000000.Idx → Elt F .f32) (pv : S1x1.Idx → Elt F .f32) (i : Fin 32 → Nat) (hi : ∀ r, i r < 1000000)
    (hw : ∀ r, IX L (ix2 r (0 : Fin 1)) = BitVec.ofNat 32 (i r)) (k : Nat) (hk : k < 14) (y : S32x71680.Idx) :
    ((∃ r, i r = 71680 * k + (y 1).val) → outB L pv k y = pv (Shape.Idx.first (Gen.numel1_S1x1.symm ▸ Nat.one_pos)))
      ∧ ((∀ r, i r ≠ 71680 * k + (y 1).val) → outB L pv k y = Gen.k0_pay2401 (F := F) y) := by
  have hy : (y 1).val < 71680 := (y 1).isLt
  have hj : ∀ q (h : q < 32), jsAt (JS L) q = BitVec.ofNat 32 (i ⟨q, h⟩) := fun q h => by
    unfold jsAt
    rw [dif_pos h]
    have : jw (IX L) (⟨q, h⟩ : Fin 32).val = _ := jw_eq (IX L) ⟨q, h⟩ (by rw [hw, toInt_ofNat (by have := hi ⟨q, h⟩; omega)]; omega)
    exact this.trans (hw _)
  have H := cols_apply k (pv (Shape.Idx.first (Gen.numel1_S1x1.symm ▸ Nat.one_pos))) (JS L) y 32
  refine ⟨fun ⟨r, hr⟩ => H.1 ⟨r.val, r.isLt, ?_⟩, fun hn => H.2 fun q hq e => hn ⟨q, hq⟩ ?_⟩
  · rw [hj r.val r.isLt]
    exact (dcol_eq_iff (hi r) hk hy).mpr hr
  · rw [hj q hq] at e
    exact (dcol_eq_iff (hi _) hk hy).mp e

end Cert.KernelIdeal.Argmax

end
-- ==== Proof.Ideal.RefCol.lean ====
/-
  Over the extended reals: the reference's reduction over a row's columns gives the row's column (`best_isArg`). Its
  body keeps the smaller column where two values are equal, so the order the columns are met in does not matter.
-/
module

public import proofs.«01_k».proof.Proof.Ref
public import proofs.«01_k».proof.Proof.Ideal.Arg

@[expose] public section

set_option maxRecDepth 65536

noncomputable section

namespace Cert.ReferenceIdeal.Argmax

open Idealize.ShloMosaic Idealize.ShloMosaic.TcCoe Idealize.SL.Sem Idealize.ShloMosaic.ValueIdx
open Cert.KernelIdeal.Argmax (IsArg row place bot_eq)

/-- What the fold holds after the columns of the list `l`. -/
structure Seen (f : Nat → EReal) (l : List Nat) (v : EReal) (i : Nat) : Prop where
  le : ∀ n ∈ l, f n ≤ v
  at_ : (v = ⊥ ∧ i = 0) ∨ (i ∈ l ∧ f i = v ∧ ∀ n ∈ l, f n = v → i ≤ n)

theorem slt_ofNat {i n : Nat} (hi : i < 1000000) (hn : n < 1000000) :
    IntOp.cmpi .slt (BitVec.ofNat 32 i) (BitVec.ofNat 32 n) = BitVec.ofBool (decide (i < n)) := by
  show BitVec.ofBool ((BitVec.ofNat 32 i).slt (BitVec.ofNat 32 n)) = _
  congr 1
  rw [Bool.eq_iff_iff, BitVec.slt_iff_toInt_lt, decide_eq_true_iff, BitVec.toInt_eq_toNat_cond, BitVec.toInt_eq_toNat_cond,
    BitVec.toNat_ofNat, BitVec.toNat_ofNat, Nat.mod_eq_of_lt (by omega), Nat.mod_eq_of_lt (by omega), if_pos (by omega), if_pos (by omega)]
  omega

/-- The reduction's body on two pairs of a value and a column. -/
theorem reducer_apply (v w : Ideal .f32) {i n : Nat} (hi : i < 1000000) (hn : n < 1000000) :
    reducer_argmax_f32_i32 (F := Ideal) (v, BitVec.ofNat 32 i) (w, BitVec.ofNat 32 n)
      = if w < v then (v, BitVec.ofNat 32 i) else if v = w ∧ i < n then (w, BitVec.ofNat 32 i) else (w, BitVec.ofNat 32 n) := by
  unfold reducer_argmax_f32_i32
  simp only [slt_ofNat hi hn]
  show (Scalar.select (IntOp.ori (BitVec.ofBool (decide (w < v))) (BitVec.ofBool (decide (v ≠ v)))) v w,
    Scalar.select (IntOp.ori (IntOp.ori (BitVec.ofBool (decide (w < v))) (BitVec.ofBool (decide (v ≠ v))))
      (IntOp.andi (BitVec.ofBool (decide (v = w))) (BitVec.ofBool (decide (i < n))))) (BitVec.ofNat 32 i) (BitVec.ofNat 32 n)) = _
  rw [show decide (v ≠ v) = false from decide_eq_false (by simp)]
  by_cases h₁ : w < v
  · rw [if_pos h₁, decide_eq_true h₁]
    cases decide (v = w) <;> cases decide (i < n) <;> rfl
  · rw [if_neg h₁, decide_eq_false h₁]
    by_cases h₂ : v = w
    · by_cases h₃ : i < n
      · rw [if_pos ⟨h₂, h₃⟩, decide_eq_true h₂, decide_eq_true h₃]; rfl
      · rw [if_neg fun h => h₃ h.2, decide_eq_true h₂, decide_eq_false h₃]; rfl
    · rw [if_neg fun h => h₂ h.1, decide_eq_false h₂]
      cases decide (i < n) <;> rfl

theorem Seen.zero (f : Nat → EReal) : Seen f [] ⊥ 0 := ⟨fun n h => absurd h List.not_mem_nil, .inl ⟨rfl, rfl⟩⟩

/-- One column more. -/
theorem Seen.step {f : Nat → EReal} {l : List Nat} {v : EReal} {i n : Nat} (H : Seen f l v i) :
    Seen f (l ++ [n]) (if f n < v then v else f n) (if f n < v then i else if v = f n ∧ i < n then i else n) := by
  have mem : ∀ {k}, k ∈ l ++ [n] → k ∈ l ∨ k = n := fun h => by simpa using h
  split
  · next h =>
    refine ⟨fun k hk => ?_, ?_⟩
    · rcases mem hk with hk | rfl
      · exact H.le k hk
      · exact h.le
    · rcases H.at_ with h' | ⟨h₁, h₂, h₃⟩
      · exact .inl h'
      · refine .inr ⟨by simp [h₁], h₂, fun k hk e => ?_⟩
        rcases mem hk with hk | rfl
        · exact h₃ k hk e
        · exact absurd e h.ne
  · next h =>
    have hvn : v ≤ f n := not_lt.mp h
    refine ⟨fun k hk => ?_, ?_⟩
    · rcases mem hk with hk | rfl
      · exact (H.le k hk).trans hvn
      · exact le_rfl
    · split
      · next h' =>
        rcases H.at_ with ⟨h₁, h₂⟩ | ⟨h₁, h₂, h₃⟩
        · exact .inl ⟨h'.1.symm.trans h₁, h₂⟩
        · refine .inr ⟨by simp [h₁], h₂.trans h'.1, fun k hk e => ?_⟩
          rcases mem hk with hk | rfl
          · exact h₃ k hk (e.trans h'.1.symm)
          · exact h'.2.le
      · next h' =>
        refine .inr ⟨by simp, rfl, fun k hk e => ?_⟩
        rcases mem hk with hk | rfl
        · have hv : v = f n := le_antisymm hvn (e ▸ H.le k hk)
          have hin : n ≤ i := by
            by_contra hn; exact h' ⟨hv, by omega⟩
          rcases H.at_ with ⟨h₁, h₂⟩ | ⟨h₁, h₂, h₃⟩
          · omega
          · exact hin.trans (h₃ k hk (e.trans hv.symm))
        · exact le_rfl

/-- The whole fold. -/
theorem fold_seen (f : Nat → Ideal .f32) : ∀ (l pre : List Nat) (v : Ideal .f32) (i : Nat), Seen f pre v i → i < 1000000 → (∀ n ∈ l, n < 1000000) →
    ∃ w j, (l.map fun n => (f n, BitVec.ofNat 32 n)).foldl (reducer_argmax_f32_i32 (F := Ideal)) (v, BitVec.ofNat 32 i) = (w, BitVec.ofNat 32 j)
      ∧ Seen f (pre ++ l) w j
  | [], pre, v, i, H, hi, _ => ⟨v, i, rfl, by rw [List.append_nil]; exact H⟩
  | n :: l, pre, v, i, H, hi, hl => by
    have hn : n < 1000000 := hl n (by simp)
    have H' := H.step (n := n)
    have e : reducer_argmax_f32_i32 (F := Ideal) (v, BitVec.ofNat 32 i) (f n, BitVec.ofNat 32 n)
        = ((if f n < v then v else f n), BitVec.ofNat 32 (if f n < v then i else if v = f n ∧ i < n then i else n)) := by
      rw [reducer_apply v (f n) hi hn]
      by_cases h₁ : f n < v
      · rw [if_pos h₁, if_pos h₁, if_pos h₁]
      · rw [if_neg h₁, if_neg h₁, if_neg h₁]
        by_cases h₂ : v = f n ∧ i < n
        · rw [if_pos h₂, if_pos h₂]
        · rw [if_neg h₂, if_neg h₂]
    have hlt : (if f n < v then i else if v = f n ∧ i < n then i else n) < 1000000 := by
      split
      · exact hi
      · split
        · exact hi
        · exact hn
    obtain ⟨w, j, h₁, h₂⟩ := fold_seen f l (pre ++ [n]) _ _ H' hlt fun k hk => hl k (by simp [hk])
    refine ⟨w, j, ?_, by simpa using h₂⟩
    rw [List.map_cons, List.foldl_cons, e]
    exact h₁

theorem Seen.isArg {f : Nat → EReal} {l : List Nat} {v : EReal} {i : Nat} (H : Seen f l v i) (hl : ∀ n, n ∈ l ↔ n < 1000000) : IsArg f 1000000 i := by
  rcases H.at_ with ⟨h₁, h₂⟩ | ⟨h₁, h₂, h₃⟩
  · subst h₂
    refine ⟨by omega, fun c hc => ?_, fun c hc => absurd hc (Nat.not_lt_zero c)⟩
    exact (H.le c ((hl c).mpr hc)).trans (h₁ ▸ bot_le)
  · have hi := (hl i).mp h₁
    refine ⟨hi, fun c hc => h₂ ▸ H.le c ((hl c).mpr hc), fun c hc => ?_⟩
    have hcl := (hl c).mpr (hc.trans hi)
    refine lt_of_le_of_ne (h₂ ▸ H.le c hcl) fun e => ?_
    exact absurd (h₃ c hcl (e.trans h₂)) (by omega)

theorem drop_iff (y : S32x1000000.Idx) (j : S32.Idx) : Gen.reducesTo_S32x1000000_S32_d1.drop y = j ↔ (y 0).val = (j 0).val := by
  constructor
  · rintro rfl
    exact (Gen.reducesTo_S32x1000000_S32_d1.drop_apply_val_of_eq y 0 0).symm
  · intro h
    funext a
    apply Fin.ext
    fin_cases a
    exact (Gen.reducesTo_S32x1000000_S32_d1.drop_apply_val_of_eq y 0 0).trans h

/-- The columns of a row, in the order the reduction meets them. -/
def fiber (r : Fin 32) : List Nat :=
  ((List.finRange S32x1000000.numel).filter fun n => Gen.reducesTo_S32x1000000_S32_d1.drop (S32x1000000.rowMajor.symm n) = ix1 r).map
    fun n => ((S32x1000000.rowMajor.symm n) 1).val

theorem mem_fiber (r : Fin 32) (c : Nat) : c ∈ fiber r ↔ c < 1000000 := by
  unfold fiber
  rw [List.mem_map]
  constructor
  · rintro ⟨n, _, rfl⟩
    exact ((S32x1000000.rowMajor.symm n) 1).isLt
  · intro h
    refine ⟨S32x1000000.rowMajor (place r c h), ?_, ?_⟩
    · rw [List.mem_filter]
      refine ⟨List.mem_finRange _, ?_⟩
      rw [decide_eq_true_iff, Equiv.symm_apply_apply]
      exact (drop_iff _ _).mpr rfl
    · rw [Equiv.symm_apply_apply]; rfl

/-- The pairs the reduction meets in a row. -/
theorem fiber_pairs (X : FVec Ideal S32x1000000 .f32) (r : Fin 32) :
    Host.argReduceFiber X (iotaInDim S32x1000000 32 1 : IVec S32x1000000 32) Gen.reducesTo_S32x1000000_S32_d1 (ix1 r)
      = (fiber r).map fun n => (row X r n, BitVec.ofNat 32 n) := by
  unfold Host.argReduceFiber fiber
  rw [List.map_map]
  refine List.map_congr_left fun n hn => ?_
  have hr : ((S32x1000000.rowMajor.symm n) 0).val = r.val := (drop_iff _ _).mp (decide_eq_true_iff.mp (List.mem_filter.mp hn).2)
  rw [Function.comp_apply]
  generalize S32x1000000.rowMajor.symm n = y at hr
  have : X y = row X r (y 1).val := by
    have hr' : y 0 = r := Fin.ext hr
    unfold row
    rw [dif_pos (show (y 1).val < 1000000 from (y 1).isLt), ← hr']
    exact congrArg _ (Cert.KernelIdeal.Argmax.place_self y).symm
  exact congrArg (fun v => (v, BitVec.ofNat 32 (y 1).val)) this

/-- The reduction over a row, as a fold over its columns. -/
theorem reduce_eq (X : FVec Ideal S32x1000000 .f32) (v : FVec Ideal S_ .f32) (u : IVec S_ 32) (r : Fin 32) :
    Host.argReduce (reducer_argmax_f32_i32 (F := Ideal)) X (iotaInDim S32x1000000 32 1 : IVec S32x1000000 32) v u
        Gen.reducesTo_S32x1000000_S32_d1 Gen.h_S_ (ix1 r)
      = ((fiber r).map fun n => (row X r n, BitVec.ofNat 32 n)).foldl (reducer_argmax_f32_i32 (F := Ideal))
          (v (Shape.Idx.first Gen.h_S_), u (Shape.Idx.first Gen.h_S_)) :=
  (congrFun (Ideal.argReduce_eq_reduce2 _ X _ v u _ _) (ix1 r)).trans
    ((Host.reduce2_eq_foldl_fiber _ X _ v u _ _ (ix1 r)).trans
      (congrArg (fun l => List.foldl (reducer_argmax_f32_i32 (F := Ideal)) (v (Shape.Idx.first Gen.h_S_), u (Shape.Idx.first Gen.h_S_)) l)
        (fiber_pairs X r)))

/-- The reduction from `-∞` at column 0 gives the row's column. -/
theorem reduce_isArg (X : FVec Ideal S32x1000000 .f32) (v : FVec Ideal S_ .f32) (u : IVec S_ 32)
    (hv : v (Shape.Idx.first Gen.h_S_) = (⊥ : EReal)) (hu : u (Shape.Idx.first Gen.h_S_) = 0#32) (r : Fin 32) :
    ∃ (i : Nat) (w : Ideal .f32), IsArg (row X r) 1000000 i ∧
      Host.argReduce (reducer_argmax_f32_i32 (F := Ideal)) X (iotaInDim S32x1000000 32 1 : IVec S32x1000000 32) v u
        Gen.reducesTo_S32x1000000_S32_d1 Gen.h_S_ (ix1 r) = (w, BitVec.ofNat 32 i) := by
  rw [reduce_eq, hv, hu]
  have hm := mem_fiber r
  generalize fiber r = l at hm
  obtain ⟨w, j, h₁, h₂⟩ := fold_seen (row X r) l [] (⊥ : EReal) 0 (Seen.zero _) (by omega) fun n hn => (hm n).mp hn
  rw [List.nil_append] at h₂
  exact ⟨j, w, h₂.isArg hm, h₁⟩

/-- The reference's word for a row is the row's column. -/
theorem best_isArg (x p : FVec Ideal S32x1000000 .f32) (r : Fin 32) :
    ∃ i, IsArg (row (mulf x p) r) 1000000 i ∧ best x p (ix1 r) = BitVec.ofNat 32 i := by
  have hv : (constant S_ .f32 0xFF800000#32 : FVec Ideal S_ .f32) (Shape.Idx.first Gen.h_S_) = (⊥ : EReal) := bot_eq
  obtain ⟨i, w, h, e⟩ := reduce_isArg (mulf x p) (constant S_ .f32 0xFF800000#32 : FVec Ideal S_ .f32) (constantI S_ 32 0#32 : IVec S_ 32) hv rfl r
  have e' : pairs x p (ix1 r) = (w, BitVec.ofNat 32 i) := (congrFun (pairs_eq x p) (ix1 r)).trans e
  exact ⟨i, h, columns_of e'⟩

end Cert.ReferenceIdeal.Argmax

end
-- ==== Proof.Ideal.Written.lean ====
/-
  The reference's written penalties, read at an element: the new value down the columns the index words name, the
  given penalties elsewhere.
-/
module

public import proofs.«01_k».proof.Proof.Ideal.RefCol
public import proofs.«01_k».proof.Proof.Ideal.Col
public import Idealize.ShloMosaic.Lib.Routing.OpsPair
public import Idealize.ShloMosaic.Lib.Routing.OpsSet

@[expose] public section

set_option maxRecDepth 65536

noncomputable section

namespace Cert.ReferenceIdeal.Argmax

open Idealize.ShloMosaic Idealize.ShloMosaic.TcCoe Idealize.SL.Sem Idealize.ShloMosaic.ValueIdx
open Idealize.ShloMosaic.Routing

/-- Update `(w', j)` of `x.at[:, idx].set(v)` lands at `(r, c)` exactly when `w'` is `r` and index word `j`, read signed,
    is `c`. -/
theorem lands_cols {A N J w : Nat} (d : ScatterDims (shape2 A N) (shape2 J 1) (shape2 A J)) (huw : d.updateWindowDims = [0])
    (hiw : d.insertedWindowDims = [1]) (hsd : d.scatterDimsToOperandDims = [1]) (hivd : d.indexVectorDim = 1)
    (idx : IVec (shape2 J 1) w) (w' : Fin A) (j : Fin J) (r : Fin A) (c : Fin N) :
    d.resultIdx? (ix2 w' j) idx = some (ix2 r c) ↔ w' = r ∧ (idx (ix2 j (0 : Fin 1))).toInt = c.val := by
  have hm : (1 : Fin 2) ∈ d.scatterDimsToOperandDims := by rw [hsd]; exact List.mem_singleton.2 rfl
  have hkept : d.sKept = [0] := by
    show (shape2 A N).kept d.insertedWindowDims = _
    rw [hiw]
    rfl
  have e : ∀ (l : List (Fin 2)) (n : ℕ) (h : n < l.length) (q : Fin 2), l = [q] → l[n]'h = q := by
    intro l n h q hl
    subst hl
    have : n = 0 := by simpa using h
    subst this
    rfl
  have hwin1 : d.window (ix2 w' j) 1 = 0 := by
    unfold ScatterDims.window
    rw [dif_neg fun h => (of_decide_eq_true (List.mem_filter.1 h).2) (by rw [hiw]; exact List.mem_singleton.2 rfl)]
  have hwin0 : d.window (ix2 w' j) 0 = w'.val := by
    unfold ScatterDims.window
    rw [dif_pos (by rw [hkept]; exact List.mem_singleton.2 rfl), e _ _ _ 0 huw]
  have hstart0 : d.start (ix2 w' j) idx 0 = 0 := by
    unfold ScatterDims.start
    rw [dif_neg fun h => by rw [hsd] at h; exact absurd (List.mem_singleton.1 h) (by decide : (0 : Fin 2) ≠ 1)]
  have hstart1 : d.start (ix2 w' j) idx 1 = (idx (ix2 j (0 : Fin 1))).toInt := by
    unfold ScatterDims.start
    rw [dif_pos hm]
    have hu : d.uScatter = [1] := by
      show (shape2 A J).kept d.updateWindowDims = _
      rw [huw]
      rfl
    have hsi : d.siIdx (ix2 w' j) ⟨d.scatterDimsToOperandDims.idxOf 1, List.idxOf_lt_length_iff.2 hm⟩ = ix2 j (0 : Fin 1) := by
      funext b'
      match b' with
      | ⟨0, _⟩ =>
        apply Fin.ext
        unfold ScatterDims.siIdx
        rw [dif_neg (by rw [hivd]; exact (by decide : (0 : ℕ) ≠ 1))]
        unfold ScatterDims.siCoord
        simp only [Fin.val_cast]
        rw [e _ _ _ 1 hu]
      | ⟨1, _⟩ => exact Subsingleton.elim (α := Fin 1) _ _
    rw [hsi]
  rw [Fin.ext_iff, resultIdx?_ix2, hstart0, hwin0, hstart1, hwin1]
  omega

/-- The columns the scatter writes are the reduction's, those not negative. -/
theorem cols_apply (x p : FVec Ideal S32x1000000 .f32) (j : Fin 32) {i : Nat} (hi : i < 1000000) (h : best x p (ix1 j) = BitVec.ofNat 32 i) :
    cols (index x p) (ix1 j) = BitVec.ofNat 32 i := by
  have e : shapeCast S32 (index x p) Gen.shapeCasts_S32x1_S32 (ix1 j) = BitVec.ofNat 32 i := by
    rw [shapeCast_apply _ _ _ (ix2 j (0 : Fin 1)) (by rw [Shape.rowMajor_val_two, Shape.rowMajor_val_one]; simp)]
    refine (?_ : index x p (ix2 j (0 : Fin 1)) = best x p (ix1 j)).trans h
    exact broadcastInDim_apply _ _ _ _ _ fun a => by fin_cases a; rfl
  show Scalar.select (IntOp.cmpi .slt (shapeCast S32 (index x p) Gen.shapeCasts_S32x1_S32 (ix1 j)) 0#32)
    (IntOp.addi (shapeCast S32 (index x p) Gen.shapeCasts_S32x1_S32 (ix1 j)) 1000000#32) (shapeCast S32 (index x p) Gen.shapeCasts_S32x1_S32 (ix1 j)) = _
  rw [e]
  exact wrap_of_lt _ _ (by rw [BitVec.toNat_ofNat]; omega)

/-- The written penalties at an element. -/
theorem written_apply (x p : FVec Ideal S32x1000000 .f32) (v : FVec Ideal S_ .f32) (i : Fin 32 → Nat) (hi : ∀ r, i r < 1000000)
    (hb : ∀ r, best x p (ix1 r) = BitVec.ofNat 32 (i r)) (r : Fin 32) (c : Fin 1000000) :
    ((∃ j, i j = c.val) → written x p v (ix2 r c) = v ix0) ∧ ((∀ j, i j ≠ c.val) → written x p v (ix2 r c) = p (ix2 r c)) := by
  have hidx : ∀ j : Fin 32, ((broadcastInDim S32x1 ![0] Gen.bcast_S32_S32x1_0 (cols (index x p)) : IVec S32x1 32) (ix2 j (0 : Fin 1))).toInt = i j := fun j => by
    have e : (broadcastInDim S32x1 ![0] Gen.bcast_S32_S32x1_0 (cols (index x p)) : IVec S32x1 32) (ix2 j (0 : Fin 1)) = cols (index x p) (ix1 j) :=
      broadcastInDim_apply _ _ _ _ _ fun a => by fin_cases a; rfl
    rw [e, cols_apply x p j (hi j) (hb j)]
    exact Cert.KernelIdeal.Argmax.toInt_ofNat (by have := hi j; omega)
  have lands := fun (w' j : Fin 32) => lands_cols (scatter_S32x1000000_S32x1_S32x32_0_1_1_1) rfl rfl rfl rfl
    (broadcastInDim S32x1 ![0] Gen.bcast_S32_S32x1_0 (cols (index x p)) : IVec S32x1 32) w' j r c
  refine ⟨fun ⟨j, hj⟩ => ?_, fun hn => ?_⟩
  · refine scatter_set_hit _ _ _ _ _ _ (fun k _ => ?_) (ix2 r j) ((lands r j).mpr ⟨rfl, by rw [hidx, hj]⟩)
    exact congrArg v (eq_ix0 _)
  · refine scatter_set_miss _ _ _ _ _ fun k hk => ?_
    rw [eq_ix2 k] at hk
    exact hn (k 1) (Int.ofNat_inj.mp ((hidx (k 1)).symm.trans ((lands (k 0) (k 1)).mp hk).2))

end Cert.ReferenceIdeal.Argmax

end
-- ==== Proof.Ideal.Arrays.lean ====
/-
  The kernel's two result arrays after the last point, in closed form: the index result is the last block's, written
  back once; the first result's element at a column is its block's, written back at that block's point.
-/
module

public import proofs.«01_k».proof.Proof.Ideal.Run
public import Idealize.ShloMosaic.Lib.Pipeline.ValueKit.Geometry
public import Idealize.ShloMosaic.Lib.ValueLayoutCasts

@[expose] public section

set_option maxRecDepth 65536

noncomputable section

namespace Cert.KernelIdeal.Argmax

open Idealize.ShloMosaic Idealize.ShloMosaic.TcCoe Idealize.SL.Sem Idealize.ShloMosaic.ValueIdx
open Idealize.ShloMosaic.Pipeline (Dat Cfg Window)

variable {F : FTy → Type} [FloatOps F]

variable (m : (ℓ : Loc nD τ sig) → Buf (Elt F) ℓ)

/-- The index result. -/
theorem arr3 (c : Dev nD) : (dats m 0 c).arrAt 3 cfg0.N = IX (logits m c) :=
  (dats m 0 c).arrAt_eq_of_after_last 3 ⟨27, by decide⟩ (by decide +kernel) _ fun j => rfl

/-- The element of its block that an element of the array is. -/
def inBlock (y : S32x1000000.Idx) : S32x71680.Idx := ix2 (y 0) (⟨(y 1).val % 71680, Nat.mod_lt _ (by decide)⟩ : Fin 71680)

/-- The penalty as the launch finds it: the argument, reshaped. -/
theorem V_v0 (c : Dev nD) : Gen.V m c main_v0 = shapeCast S1x1 (m ((c : Thread nD τ).loc main_arg2) : S_.Idx → Elt F .f32) Gen.shapeCasts_S_S1x1 := by
  show StableHlo.after Gen.hostOps0 (fun b => m (c, b)) main_v0 = _
  after_results
  rfl

/-- The penalty the kernel is given. -/
theorem pv_eq (c : Dev nD) (t : Fin cfg0.N) (j : S1x1.Idx) : Gen.iblk m c 0 t j = m ((c : Thread nD τ).loc main_arg2) ix0 := by
  show Gen.V m c main_v0 (((cfg0.win 0).blk t).view.emb j) = _
  rw [V_v0]
  exact congrArg (m ((c : Thread nD τ).loc main_arg2) : S_.Idx → Elt F .f32) (eq_ix0 _)

/-- The first result. -/
theorem arr2 (c : Dev nD) (G : S32x1000000.Idx → Elt F .f32)
    (hG : ∀ y : S32x1000000.Idx, ∀ pv : S1x1.Idx → Elt F .f32, (∀ j, pv j = m ((c : Thread nD τ).loc main_arg2) ix0) →
      outB (logits m c) pv ((y 1).val / 71680) (inBlock y) = G y) :
    (dats m 0 c).arrAt 2 cfg0.N = G := by
  refine (dats m 0 c).arrAt_eq_of_covers 2 G (by decide +kernel) fun t hf y => ?_
  rw [flush2] at hf
  have ht : 14 ≤ t.val := of_decide_eq_true hf
  have hN : t.val < 28 := t.isLt
  rw [← hG _ (Gen.iblk m c 0 t) (pv_eq m c t)]
  have e0 : ((((cfg0.win 2).blk t).view.emb y) (0 : Fin 2)).val = (y (0 : Fin 2)).val := by
    show win0_2.index t 0 * 32 + 1 * (y (0 : Fin 2)).val = _
    rw [index2]; simp
  have e1 : ((((cfg0.win 2).blk t).view.emb y) (1 : Fin 2)).val = (t.val - 14) * 71680 + (y (1 : Fin 2)).val := by
    show win0_2.index t 1 * 71680 + 1 * (y (1 : Fin 2)).val = _
    rw [index2, if_neg (by omega)]; simp
  have hy : (y (1 : Fin 2)).val < 71680 := by
    have h := (y (1 : Fin 2)).isLt
    have hx : win0_2.xsize (grid0.coords t) 1 ≤ 71680 := by rw [xsize2]; split <;> omega
    exact Nat.lt_of_lt_of_le h hx
  show outB (logits m c) (Gen.iblk m c 0 t) (t.val % 14) ((cfg0.win 2).xinj (cfg0.grid.coords t) y) = _
  rw [show ((((cfg0.win 2).blk t).view.emb y) (1 : Fin 2)).val / 71680 = t.val % 14 by rw [e1]; omega]
  refine congrArg (outB (logits m c) (Gen.iblk m c 0 t) (t.val % 14)) (funext fun a => Fin.ext ?_)
  match a with
  | ⟨0, _⟩ => exact e0.symm
  | ⟨1, _⟩ =>
    show (y (1 : Fin 2)).val = ((((cfg0.win 2).blk t).view.emb y) (1 : Fin 2)).val % 71680
    rw [e1]; omega

end Cert.KernelIdeal.Argmax

end
-- ==== Proof.Ideal.Value.lean ====
/-
  The kernel's two results over the extended reals are the reference's, the penalties being ones: both index results
  hold each row's column (`index_eq`), and both written arrays hold the new value down those columns and ones elsewhere
  (`written_eq`).
-/
module

public import proofs.«01_k».proof.Proof.Ideal.Pre
public import proofs.«01_k».proof.Proof.Ideal.Table
public import proofs.«01_k».proof.Proof.Ideal.Written
public import proofs.«01_k».proof.Proof.Ideal.Arrays

@[expose] public section

set_option maxRecDepth 65536

noncomputable section

namespace Cert.KernelIdeal.Argmax

open Idealize.ShloMosaic Idealize.ShloMosaic.TcCoe Idealize.SL.Sem Idealize.ShloMosaic.ValueIdx
open Cert.ReferenceIdeal.Argmax (best best_isArg index written written_apply)

variable (x p : FVec Ideal S32x1000000 .f32) (v : FVec Ideal S_ .f32)

/-- The rows' columns: the number both programs' words hold. -/
theorem columns_eq (hp : ∀ y, p y = (1 : EReal)) :
    ∃ i : Fin 32 → Nat, ∀ r, i r < 1000000 ∧ IX (F := Ideal) x (ix2 r (0 : Fin 1)) = BitVec.ofNat 32 (i r) ∧ best x p (ix1 r) = BitVec.ofNat 32 (i r) := by
  have H : ∀ r : Fin 32, ∃ i, i < 1000000 ∧ IX (F := Ideal) x (ix2 r (0 : Fin 1)) = BitVec.ofNat 32 i ∧ best x p (ix1 r) = BitVec.ofNat 32 i := fun r => by
    obtain ⟨i, hi, ei⟩ := IX_isArg x r 0
    obtain ⟨j, hj, ej⟩ := best_isArg x p r
    rw [Cert.Pre_penalty_is_one.mul_one p x hp] at hj
    exact ⟨i, hi.lt, ei, (hi.unique hj) ▸ ej⟩
  choose i hi using H
  exact ⟨i, hi⟩

/-- The index results are equal, -/
theorem index_eq (hp : ∀ y, p y = (1 : EReal)) : IX (F := Ideal) x = index x p := by
  obtain ⟨i, hi⟩ := columns_eq x p hp
  funext y
  have hy : y = ix2 (y 0) (0 : Fin 1) := (eq_ix2 y).trans (congrArg (ix2 (y 0)) (Subsingleton.elim (α := Fin 1) _ _))
  rw [hy]
  refine (hi (y 0)).2.1.trans ((hi (y 0)).2.2.symm.trans (Eq.symm ?_))
  exact broadcastInDim_apply _ _ _ _ _ fun a => by fin_cases a; rfl

theorem ones_apply (y : S32x71680.Idx) : Gen.k0_pay2401 (F := Ideal) y = (1 : EReal) := Ideal.ofBits_one_f32

/-- and so are the written penalties, element by element. -/
theorem written_eq (hp : ∀ y, p y = (1 : EReal)) (pv : S1x1.Idx → Elt Ideal .f32) (hv : ∀ j, pv j = v ix0) (y : S32x1000000.Idx) :
    outB (F := Ideal) x pv ((y 1).val / 71680) (inBlock y) = written x p v y := by
  obtain ⟨i, hi⟩ := columns_eq x p hp
  have hy1 : (y 1).val < 1000000 := (y 1).isLt
  have K := outB_apply (F := Ideal) x pv i (fun r => (hi r).1) (fun r => (hi r).2.1) ((y 1).val / 71680) (by omega) (inBlock y)
  have R := written_apply x p v i (fun r => (hi r).1) (fun r => (hi r).2.2) (y 0) (y 1)
  have ec : 71680 * ((y 1).val / 71680) + ((inBlock y) 1).val = (y 1).val := Nat.div_add_mod _ _
  rw [ec] at K
  rw [eq_ix2 y] at *
  by_cases h : ∃ r, i r = (y 1).val
  · exact (K.1 h).trans ((hv _).trans (R.1 h).symm)
  · have h' : ∀ r, i r ≠ (y 1).val := fun r e => h ⟨r, e⟩
    exact (K.2 h').trans ((ones_apply _).trans ((R.2 h').trans (hp _)).symm)

end Cert.KernelIdeal.Argmax

end
-- ==== Proof.lean ====
/-
  The proof of the certificate's claim: the frames of the kernel, of its reading over the extended reals and of the
  reference, and the equality of the two programs' results over the extended reals where the penalties are ones.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_penalty_is_one
public import proofs.«01_k».proof.Proof.Run
public import proofs.«01_k».proof.Proof.Ideal.Run
public import proofs.«01_k».proof.Proof.Ref
public import proofs.«01_k».proof.Proof.Ideal.Value
public import Idealize.ShloMosaic.Adequacy
public import Idealize.ShloMosaic.Init

@[expose] public section

noncomputable section

namespace Cert.Proof

open Idealize.ShloMosaic Idealize.SL.Sem

/-- The kernel, over any float values: it ends with its arguments unchanged and every counter at zero. -/
theorem frame_kernel : Cert.quiescent_Kernel := fun m g _ =>
  (θ_run _ _ _).mono (fun _ h => ⟨fun c => ⟨(h.1 c).1, (h.1 c).2.1, (h.1 c).2.2.1⟩, h.2⟩) (Cert.Kernel.Argmax.run m g)

/-- The kernel over the extended reals. -/
theorem frame_ideal : Cert.quiescent_KernelIdeal := fun m g _ =>
  (θ_run _ _ _).mono (fun _ h => ⟨fun c => ⟨(h.1 c).1, (h.1 c).2.1, (h.1 c).2.2.1⟩, h.2⟩) (Cert.KernelIdeal.Argmax.run m g)

/-- The reference over the extended reals. -/
theorem frame_reference : Cert.quiescent_ReferenceIdeal := fun m g _ =>
  (θ_run _ _ _).mono (fun _ h => ⟨fun c => ⟨(h.1 c).2.2.1, (h.1 c).2.2.2.1, (h.1 c).2.2.2.2⟩, h.2⟩)
    (Cert.ReferenceIdeal.Argmax.run m g)

/-- Those two, the penalties being ones. -/
theorem frame_ideal_pre : Cert.quiescent_KernelIdeal_pre_penalty_is_one := fun m g _ => frame_ideal m g trivial
theorem frame_reference_pre : Cert.quiescent_ReferenceIdeal_pre_penalty_is_one := fun m g _ => frame_reference m g trivial

/-- Over the extended reals, the penalties being ones, the kernel's two results are the reference's. -/
theorem algebraic : Cert.algebraic_KernelIdeal_ReferenceIdeal_pre_penalty_is_one := fun m g m' g' hpre hargs => by
  refine ⟨fun c => Cert.ReferenceIdeal.Argmax.written (F := Ideal) (m ((c.tc : Thread _ _).loc Cert.KernelIdeal.main_arg1))
      (m ((c.tc : Thread _ _).loc Cert.KernelIdeal.main_arg0)) (m ((c.tc : Thread _ _).loc Cert.KernelIdeal.main_arg2)),
    fun c => Cert.ReferenceIdeal.Argmax.index (F := Ideal) (m ((c.tc : Thread _ _).loc Cert.KernelIdeal.main_arg1))
      (m ((c.tc : Thread _ _).loc Cert.KernelIdeal.main_arg0)), ?_, ?_⟩
  · refine (θ_run _ _ _).mono (fun r h c => ?_) (Cert.KernelIdeal.Argmax.run m g)
    obtain ⟨h0, h1, h2, e0, e1⟩ := h.1 c
    have hp := Cert.Pre_penalty_is_one.eq_one _ _ _ (hpre c)
    have eL : Cert.KernelIdeal.Argmax.logits m c = m ((c.tc : Thread _ _).loc Cert.KernelIdeal.main_arg1) := Cert.KernelIdeal.Gen.V_main_arg1 m c
    refine ⟨e0.trans (Cert.KernelIdeal.Argmax.arr2 m c _ fun y pv hv => ?_), e1.trans ((Cert.KernelIdeal.Argmax.arr3 m c).trans ?_), h0, h1, h2⟩
    · rw [eL]
      exact Cert.KernelIdeal.Argmax.written_eq _ _ _ hp pv hv y
    · rw [eL]
      exact Cert.KernelIdeal.Argmax.index_eq _ _ hp
  · refine (θ_run _ _ _).mono (fun r h c => ?_) (Cert.ReferenceIdeal.Argmax.run m' g')
    obtain ⟨e0, e1, h⟩ := h.1 c
    obtain ⟨a0, a1, a2⟩ := hargs c
    rw [a0, a1, a2] at e0
    rw [a0, a1] at e1
    exact ⟨e0, e1, h⟩

theorem claim : Cert.Claim :=
  ⟨Cert.Kernel.Gen.facts, Cert.KernelIdeal.Gen.facts, Cert.ReferenceIdeal.Gen.facts, Cert.Pre_penalty_is_one.Gen.facts,
    frame_kernel, frame_ideal, frame_ideal_pre, frame_reference, frame_reference_pre, trivial, algebraic⟩

end Cert.Proof

end
